-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1 : Shape := ⟨1, ![1]⟩
abbrev S5x1024x1024 : Shape := ⟨3, ![5, 1024, 1024]⟩
abbrev S2x1024x1024 : Shape := ⟨3, ![2, 1024, 1024]⟩
abbrev S5 : Shape := ⟨1, ![5]⟩
abbrev S2 : Shape := ⟨1, ![2]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 5
  | .vmem => 5
  | .smem => 2
  | _ => 0

abbrev bufTy : (tb : Table) → Fin (tcTables nBuf tb) → BufTy
  | .hbm, ⟨0, _⟩ => ⟨S4096x1024, .i8⟩
  | .hbm, ⟨1, _⟩ => ⟨S1024x8192, .i8⟩
  | .hbm, ⟨2, _⟩ => ⟨S1, .f32⟩
  | .hbm, ⟨3, _⟩ => ⟨S1, .f32⟩
  | .hbm, ⟨4, _⟩ => ⟨S1024x8192, .f32⟩
  | .local _ .vmem, ⟨0, _⟩ => ⟨S4096x1024, .i8⟩
  | .local _ .vmem, ⟨1, _⟩ => ⟨S1024x8192, .i8⟩
  | .local _ .vmem, ⟨2, _⟩ => ⟨S5x1024x1024, .bf16⟩
  | .local _ .vmem, ⟨3, _⟩ => ⟨S5x1024x1024, .bf16⟩
  | .local _ .vmem, ⟨4, _⟩ => ⟨S2x1024x1024, .f32⟩
  | .local _ .smem, ⟨0, _⟩ => ⟨S1, .f32⟩
  | .local _ .smem, ⟨1, _⟩ => ⟨S1, .f32⟩
  | _, _ => ⟨S4096x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32 : BitVec 32 := 1024#32
  let v16 : BitVec 32 := Scalar.muli v5 c1024_i32
  let v17 : Index := Scalar.indexCast v16
  let c0_11 : Index := 0#32
  ![v17.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1024_i32_17 : BitVec 32 := 1024#32
  let v29 : BitVec 32 := Scalar.muli v7 c1024_i32_17
  let v30 : Index := Scalar.indexCast v29
  let c0_18 : Index := 0#32
  ![v30.toNat, 0]
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_28 : BitVec 32 := 1#32
  let v42 : BitVec 32 := Scalar.muli v7 c1_i32_28
  let v43 : BitVec 32 := Scalar.addi c0_i32_29 v42
  v43.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_38 : BitVec 32 := 1#32
  let v52 : BitVec 32 := Scalar.muli v5 c1_i32_38
  let v53 : BitVec 32 := Scalar.addi c0_i32_39 v52
  v53.toNat
def k0_off3 (d0 : Dev nD) (c0_i32_45 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v62 : BitVec 32 := Scalar.addi v2 c8_i32
  let c2_i32_44 : BitVec 32 := 2#32
  let v63 : BitVec 32 := Scalar.subi v62 c2_i32_44
  let v64 : BitVec 32 := Scalar.subi v63 c0_i32_45
  let c4_i32_46 : BitVec 32 := 4#32
  let v65 : BitVec 32 := Scalar.remsi v64 c4_i32_46
  let c1024_i32_50 : BitVec 32 := 1024#32
  let v69 : BitVec 32 := Scalar.muli v65 c1024_i32_50
  let v70 : Index := Scalar.indexCast v69
  let c0_51 : Index := 0#32
  ![v70.toNat, 0]
def k0_off4 (d0 : Dev nD) (c0_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_47 : BitVec 32 := 2#32
  let v66 : BitVec 32 := Scalar.addi v2 c2_i32_47
  let v67 : BitVec 32 := Scalar.addi v66 c0_i32_48
  let c4_i32_49 : BitVec 32 := 4#32
  let v68 : BitVec 32 := Scalar.remsi v67 c4_i32_49
  let c1024_i32_55 : BitVec 32 := 1024#32
  let v78 : BitVec 32 := Scalar.muli v68 c1024_i32_55
  let v79 : Index := Scalar.indexCast v78
  let c0_56 : Index := 0#32
  ![v79.toNat, 0]
def k0_dev5 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_113 : BitVec 32 := 1#32
  let v131 : BitVec 32 := Scalar.muli v7 c1_i32_113
  let v132 : BitVec 32 := Scalar.addi c0_i32_114 v131
  v132.toNat
def k0_dev6 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_123 : BitVec 32 := 1#32
  let v141 : BitVec 32 := Scalar.muli v5 c1_i32_123
  let v142 : BitVec 32 := Scalar.addi c0_i32_124 v141
  v142.toNat
def k0_dev7 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_198 : BitVec 32 := 1#32
  let v220 : BitVec 32 := Scalar.muli v7 c1_i32_198
  let v221 : BitVec 32 := Scalar.addi c0_i32_199 v220
  v221.toNat
def k0_dev8 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_208 : BitVec 32 := 1#32
  let v230 : BitVec 32 := Scalar.muli v5 c1_i32_208
  let v231 : BitVec 32 := Scalar.addi c0_i32_209 v230
  v231.toNat
def k0_dev9 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_269 : BitVec 32 := 1#32
  let v294 : BitVec 32 := Scalar.muli v7 c1_i32_269
  let v295 : BitVec 32 := Scalar.addi c0_i32_270 v294
  v295.toNat
def k0_dev10 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_279 : BitVec 32 := 1#32
  let v304 : BitVec 32 := Scalar.muli v5 c1_i32_279
  let v305 : BitVec 32 := Scalar.addi c0_i32_280 v304
  v305.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_302 : BitVec 32 := 1024#32
  let v339 : BitVec 32 := Scalar.muli v2 c1024_i32_302
  let v340 : Index := Scalar.indexCast v339
  let c0_303 : Index := 0#32
  ![v340.toNat, 0]
def k0_dev11 (d0 : Dev nD) : Nat :=
  let c0_i32_373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_372 : BitVec 32 := 1#32
  let v406 : BitVec 32 := Scalar.muli v7 c1_i32_372
  let v407 : BitVec 32 := Scalar.addi c0_i32_373 v406
  v407.toNat
def k0_dev12 (d0 : Dev nD) : Nat :=
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_382 : BitVec 32 := 1#32
  let v416 : BitVec 32 := Scalar.muli v5 c1_i32_382
  let v417 : BitVec 32 := Scalar.addi c0_i32_383 v416
  v417.toNat
def k0_dev13 (d0 : Dev nD) : Nat :=
  let c0_i32_477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_476 : BitVec 32 := 1#32
  let v518 : BitVec 32 := Scalar.muli v7 c1_i32_476
  let v519 : BitVec 32 := Scalar.addi c0_i32_477 v518
  v519.toNat
def k0_dev14 (d0 : Dev nD) : Nat :=
  let c0_i32_487 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_486 : BitVec 32 := 1#32
  let v528 : BitVec 32 := Scalar.muli v5 c1_i32_486
  let v529 : BitVec 32 := Scalar.addi c0_i32_487 v528
  v529.toNat
def k0_dev15 (d0 : Dev nD) : Nat :=
  let c0_i32_549 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_548 : BitVec 32 := 1#32
  let v592 : BitVec 32 := Scalar.muli v7 c1_i32_548
  let v593 : BitVec 32 := Scalar.addi c0_i32_549 v592
  v593.toNat
def k0_dev16 (d0 : Dev nD) : Nat :=
  let c0_i32_559 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_558 : BitVec 32 := 1#32
  let v602 : BitVec 32 := Scalar.muli v5 c1_i32_558
  let v603 : BitVec 32 := Scalar.addi c0_i32_559 v602
  v603.toNat
def k0_dev17 (d0 : Dev nD) : Nat :=
  let c0_i32_658 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_657 : BitVec 32 := 1#32
  let v709 : BitVec 32 := Scalar.muli v7 c1_i32_657
  let v710 : BitVec 32 := Scalar.addi c0_i32_658 v709
  v710.toNat
def k0_dev18 (d0 : Dev nD) : Nat :=
  let c0_i32_668 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_667 : BitVec 32 := 1#32
  let v719 : BitVec 32 := Scalar.muli v5 c1_i32_667
  let v720 : BitVec 32 := Scalar.addi c0_i32_668 v719
  v720.toNat
def k0_dev19 (d0 : Dev nD) : Nat :=
  let c0_i32_767 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_766 : BitVec 32 := 1#32
  let v826 : BitVec 32 := Scalar.muli v7 c1_i32_766
  let v827 : BitVec 32 := Scalar.addi c0_i32_767 v826
  v827.toNat
def k0_dev20 (d0 : Dev nD) : Nat :=
  let c0_i32_777 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_776 : BitVec 32 := 1#32
  let v836 : BitVec 32 := Scalar.muli v5 c1_i32_776
  let v837 : BitVec 32 := Scalar.addi c0_i32_777 v836
  v837.toNat
def k0_dev21 (d0 : Dev nD) : Nat :=
  let c0_i32_839 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_838 : BitVec 32 := 1#32
  let v900 : BitVec 32 := Scalar.muli v7 c1_i32_838
  let v901 : BitVec 32 := Scalar.addi c0_i32_839 v900
  v901.toNat
def k0_dev22 (d0 : Dev nD) : Nat :=
  let c0_i32_849 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_848 : BitVec 32 := 1#32
  let v910 : BitVec 32 := Scalar.muli v5 c1_i32_848
  let v911 : BitVec 32 := Scalar.addi c0_i32_849 v910
  v911.toNat
def k0_dev23 (d0 : Dev nD) : Nat :=
  let c0_i32_948 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_947 : BitVec 32 := 1#32
  let v1017 : BitVec 32 := Scalar.muli v7 c1_i32_947
  let v1018 : BitVec 32 := Scalar.addi c0_i32_948 v1017
  v1018.toNat
def k0_dev24 (d0 : Dev nD) : Nat :=
  let c0_i32_958 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_957 : BitVec 32 := 1#32
  let v1027 : BitVec 32 := Scalar.muli v5 c1_i32_957
  let v1028 : BitVec 32 := Scalar.addi c0_i32_958 v1027
  v1028.toNat
def k0_dev25 (d0 : Dev nD) : Nat :=
  let c0_i32_1057 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1056 : BitVec 32 := 1#32
  let v1134 : BitVec 32 := Scalar.muli v7 c1_i32_1056
  let v1135 : BitVec 32 := Scalar.addi c0_i32_1057 v1134
  v1135.toNat
def k0_dev26 (d0 : Dev nD) : Nat :=
  let c0_i32_1067 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1066 : BitVec 32 := 1#32
  let v1144 : BitVec 32 := Scalar.muli v5 c1_i32_1066
  let v1145 : BitVec 32 := Scalar.addi c0_i32_1067 v1144
  v1145.toNat
abbrev stage0_0 : Fin 1 → Memref sig .tc .vmem S4096x1024 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Slots.lean ====
/-
# The buffers of the kernel, slot by slot

Each device holds two receive buffers of five 1024 × 1024 slots (one per direction of travel round the ring), a
staging buffer of two output slots, and the output array of eight column blocks. This module names those pieces,
states ownership of one piece, and proves what loading, storing and copying a piece does.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ViewIndex

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Two copies of the rounds algebra: the pipeline's, over one duty a round, and the ring's, over two. -/
abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-! ## The ring's two directions -/

/-- The next device round the ring, and the previous one. -/
def nxt (c : Dev nD) : Dev nD := ⟨(c.val + 1) % 4, Nat.mod_lt _ (by decide)⟩
def prv (c : Dev nD) : Dev nD := ⟨(c.val + 3) % 4, Nat.mod_lt _ (by decide)⟩

/-- Where direction `b` sends to: `false` forwards, `true` backwards. -/
def fw (b : Bool) (c : Dev nD) : Dev nD := bif b then prv c else nxt c
/-- Where direction `b` receives from. -/
abbrev bw (b : Bool) (c : Dev nD) : Dev nD := fw (!b) c

theorem fw_bw (b : Bool) (c : Dev nD) : fw b (bw b c) = c := by revert b c; decide
theorem bw_fw (b : Bool) (c : Dev nD) : bw b (fw b c) = c := by revert b c; decide
theorem fw_ne (b : Bool) (c : Dev nD) : fw b c ≠ c := by revert b c; decide

/-! ## Receive slots -/

theorem inb5 (k : Fin 5) : ∀ a, (![k.val, 0, 0] : Fin 3 → ℕ) a + S1x1024x1024.size a ≤ S5x1024x1024.size a := by
  revert k; decide
theorem inb2 (j : Fin 2) : ∀ a, (![j.val, 0, 0] : Fin 3 → ℕ) a + S1x1024x1024.size a ≤ S2x1024x1024.size a := by
  revert j; decide

/-- Slot `k` of a receive buffer, and slot `j` of the staging buffer, as rectangles. -/
abbrev r5 (k : Fin 5) : Rect S5x1024x1024 := Rect.unit (s := S5x1024x1024) ![k.val, 0, 0] S1x1024x1024.size (inb5 k)
abbrev r2 (j : Fin 2) : Rect S2x1024x1024 := Rect.unit (s := S2x1024x1024) ![j.val, 0, 0] S1x1024x1024.size (inb2 j)

/-- Direction `b`'s receive buffer. -/
abbrev commRef (b : Bool) : Ref sig .tc := bif b then cc0_scratch1 else cc0_scratch0
def cM (b : Bool) : Memref sig .tc .vmem S5x1024x1024 .bf16 :=
  match b with
  | false => Memref.whole cc0_scratch0
  | true => Memref.whole cc0_scratch1
abbrev oM : Memref sig .tc .vmem S2x1024x1024 .f32 := Memref.whole cc0_scratch2
abbrev yM : Memref sig .tc .hbm S1024x8192 .f32 := Memref.whole main_v1

/-- A slot as the transfers name it: the slice with its unit axis dropped. -/
abbrev cS (b : Bool) (k : Fin 5) : Memref sig .tc .vmem S1024x1024 .bf16 :=
  ((cM b).slice (r5 k) (fun _ => rfl)).squeeze S1024x1024 squeezes_S1x1024x1024_S1024x1024
abbrev oS (j : Fin 2) : Memref sig .tc .vmem S1024x1024 .f32 :=
  ((oM).slice (r2 j) (fun _ => rfl)).squeeze S1024x1024 squeezes_S1x1024x1024_S1024x1024

theorem inbY (n : Fin 8) : ∀ a, (![0, 1024 * n.val] : Fin 2 → ℕ) a + S1024x1024.size a ≤ S1024x8192.size a := by
  revert n; decide
theorem inbX (j : Fin 4) : ∀ a, (![1024 * j.val, 0] : Fin 2 → ℕ) a + S1024x1024.size a ≤ S4096x1024.size a := by
  revert j; decide

/-- Column block `n` of the output array. -/
abbrev rY (n : Fin 8) : Rect S1024x8192 := Rect.unit (s := S1024x8192) ![0, 1024 * n.val] S1024x1024.size (inbY n)
abbrev yS (n : Fin 8) : Memref sig .tc .hbm S1024x1024 .f32 := yM.slice (rY n) (fun _ => rfl)
/-- Row block `j` of the device's block of the left operand. -/
abbrev rX (j : Fin 4) : Rect S4096x1024 := Rect.unit (s := S4096x1024) ![1024 * j.val, 0] S1024x1024.size (inbX j)

/-- What a transfer of a slot credits, and what a copy of an output block does. -/
def N : ℕ := (cS false 0).view.dmaCredit
def NO : ℕ := (yS 0).view.dmaCredit
theorem credit_cS (b : Bool) (k : Fin 5) : (cS b k).view.dmaCredit = N := by cases b <;> rfl
theorem credit_yS (n : Fin 8) : (yS n).view.dmaCredit = NO := rfl
theorem N_pos : 0 < N := View.dmaCredit_pos _ (by decide)
theorem NO_pos : 0 < NO := View.dmaCredit_pos _ (by decide)

/-- Slot `k` of direction `b`'s buffer on device `c`, holding `v`. -/
def slot (b : Bool) (c : Dev nD) (k : Fin 5) (v : Vec F S1x1024x1024 .bf16) : sProp 𝕄 :=
  iprop(∃ f : Buf (Elt F) ((cM b).view.loc (c : Thread nD τ)), ⌜(cM b).view.readAt (Elt F) (r5 k).toLoadRect f = v⌝
    ∗ ((cS b k).view.loc (c : Thread nD τ) ↦[(cS b k).view.set]{fullShare} f))

/-- The same slot at contents not known. -/
def anySlot (b : Bool) (c : Dev nD) (k : Fin 5) : sProp 𝕄 :=
  iprop(∃ f : Buf (Elt F) ((cM b).view.loc (c : Thread nD τ)), ((cS b k).view.loc (c : Thread nD τ) ↦[(cS b k).view.set]{fullShare} f))

omit [FloatOps F] in
theorem slot_any (b : Bool) (c : Dev nD) (k : Fin 5) (v : Vec F S1x1024x1024 .bf16) : slot b c k v ⊢ anySlot b c k := by
  unfold slot anySlot
  iintro ⟨%f, -, H⟩
  iexists f; iexact H

omit [FloatOps F] in
theorem any_slot (b : Bool) (c : Dev nD) (k : Fin 5) : anySlot (F := F) b c k ⊢ iprop(∃ v, slot b c k v) := by
  unfold slot anySlot
  iintro ⟨%f, H⟩
  iexists _; iexists f
  isplitr; · (ipureintro; rfl)
  iexact H

omit [FloatOps F] in
instance slot_storable (b : Bool) (c : Dev nD) (k : Fin 5) (v) : BI.Storable (upEmb : UEmb _ 𝕄) (slot (F := F) b c k v) := by
  unfold slot; infer_instance
omit [FloatOps F] in
instance anySlot_storable (b : Bool) (c : Dev nD) (k : Fin 5) : BI.Storable (upEmb : UEmb _ 𝕄) (anySlot (F := F) b c k) := by
  unfold anySlot; infer_instance

theorem sq5 : S1x1024x1024.ShapeCasts S1024x1024 := shapeCasts_S1x1024x1024_S1024x1024

/-- The slice's elements are the squeezed slice's. -/
theorem set_cS (b : Bool) (k : Fin 5) : (cS b k).view.set = ((cM b).access (r5 k)).set :=
  View.set_reshape _ _
theorem set_oS (j : Fin 2) : (oS j).view.set = ((oM).access (r2 j)).set := View.set_reshape _ _

theorem sub_cS (b : Bool) (k : Fin 5) : ((cM b).access (r5 k)).set ⊆ (cS b k).view.set := by
  rw [set_cS]
theorem sub_oS (j : Fin 2) : ((oM).access (r2 j)).set ⊆ (oS j).view.set := by
  rw [set_oS]

section Ops

/-- Loading a receive slot reads what it holds. -/
theorem wp_load_slot (b : Bool) (c : Dev nD) (k : Fin 5) (v : Vec F S1x1024x1024 .bf16)
    {m : Memref sig .tc .vmem S5x1024x1024 .bf16} (hm : m = cM b)
    {off : Fin 3 → ℕ} {inb} (ho : off = ![k.val, 0, 0])
    {hl : m.view.LoadsAt (Rect.unit (s := S5x1024x1024) off S1x1024x1024.size inb).toLoadRect}
    {α : Type} {Q : α → sProp 𝕄} {K : Vec F S1x1024x1024 .bf16 → Prog (TpuEff nD τ sig (Elt F) Λ₀ .tc) α} :
    slot b c k v ⊢ iprop((slot b c k v -∗ wp frame (wpE (defs₀ (F := F)) 𝒱₀ c none) Set.univ (K v) Q)
      -∗ wp frame (wpE (defs₀ (F := F)) 𝒱₀ c none) Set.univ
          (.op (.load m (Rect.unit (s := S5x1024x1024) off S1x1024x1024.size inb).toLoadRect hl) K) Q) := by
  subst hm; subst ho
  unfold slot
  iintro ⟨%f, %hf, H⟩ Hk
  subst hf
  iapply (wp_load_rect 𝒱₀ (c : Thread nD τ) none Set.univ (m := cM b) (r := r5 k) (S := (cS b k).view.set)
    (sub_cS b k)) $$ H
  iintro H
  iapply Hk
  iexists f
  isplitr; · (ipureintro; rfl)
  iexact H

/-- Overwriting a receive slot. -/
theorem wp_store_slot (b : Bool) (c : Dev nD) (k : Fin 5) (v w : Vec F S1x1024x1024 .bf16)
    {m : Memref sig .tc .vmem S5x1024x1024 .bf16} (hm : m = cM b)
    {off : Fin 3 → ℕ} {inb} (ho : off = ![k.val, 0, 0])
    {hx : (m.access (Rect.unit (s := S5x1024x1024) off S1x1024x1024.size inb)).Stores Finset.univ} {hu}
    {α : Type} {Q : α → sProp 𝕄} {K : PUnit → Prog (TpuEff nD τ sig (Elt F) Λ₀ .tc) α} :
    slot b c k v ⊢ iprop((slot b c k w -∗ wp frame (wpE (defs₀ (F := F)) 𝒱₀ c none) Set.univ (K ⟨⟩) Q)
      -∗ wp frame (wpE (defs₀ (F := F)) 𝒱₀ c none) Set.univ
          (.op (.store m (Rect.unit (s := S5x1024x1024) off S1x1024x1024.size inb) w Finset.univ hx hu) K) Q) := by
  subst hm; subst ho
  unfold slot
  iintro ⟨%f, -, H⟩ Hk
  iapply (wp_store 𝒱₀ (c : Thread nD τ) none Set.univ (m := cM b) (r := r5 k) (Mk := Finset.univ) (S := (cS b k).view.set)
    (sub_cS b k)) $$ H
  iintro H
  iapply Hk
  iexists (((cM b).access (r5 k)).write (Elt F) f w Finset.univ)
  isplitr
  · ipureintro
    exact View.read_write_univ (v := (cM b).access (r5 k)) f w
  iexact H

/-! ## Staging slots and output blocks -/

/-- Staging slot `j` of device `c`, holding `v`. -/
def oslot (c : Dev nD) (j : Fin 2) (v : Vec F S1x1024x1024 .f32) : sProp 𝕄 :=
  iprop(∃ f : Buf (Elt F) ((oM).view.loc (c : Thread nD τ)), ⌜(oM).view.readAt (Elt F) (r2 j).toLoadRect f = v⌝
    ∗ ((oS j).view.loc (c : Thread nD τ) ↦[(oS j).view.set]{fullShare} f))

/-- Output block `n` of device `c`, holding `w`. -/
def yblk (c : Dev nD) (n : Fin 8) (w : Vec F S1024x1024 .f32) : sProp 𝕄 :=
  iprop(∃ f : Buf (Elt F) ((yM).view.loc (c : Thread nD τ)), ⌜(yS n).view.read (Elt F) f = w⌝
    ∗ ((yS n).view.loc (c : Thread nD τ) ↦[(yS n).view.set]{fullShare} f))

omit [FloatOps F] in
instance oslot_storable (c : Dev nD) (j : Fin 2) (v) : BI.Storable (upEmb : UEmb _ 𝕄) (oslot (F := F) c j v) := by
  unfold oslot; infer_instance
omit [FloatOps F] in
instance yblk_storable (c : Dev nD) (n : Fin 8) (w) : BI.Storable (upEmb : UEmb _ 𝕄) (yblk (F := F) c n w) := by
  unfold yblk; infer_instance

/-- Loading a staging slot reads what it holds. -/
theorem wp_load_oslot (c : Dev nD) (j : Fin 2) (v : Vec F S1x1024x1024 .f32)
    {m : Memref sig .tc .vmem S2x1024x1024 .f32} (hm : m = oM)
    {off : Fin 3 → ℕ} {inb} (ho : off = ![j.val, 0, 0])
    {hl : m.view.LoadsAt (Rect.unit (s := S2x1024x1024) off S1x1024x1024.size inb).toLoadRect}
    {α : Type} {Q : α → sProp 𝕄} {K : Vec F S1x1024x1024 .f32 → Prog (TpuEff nD τ sig (Elt F) Λ₀ .tc) α} :
    oslot c j v ⊢ iprop((oslot c j v -∗ wp frame (wpE (defs₀ (F := F)) 𝒱₀ c none) Set.univ (K v) Q)
      -∗ wp frame (wpE (defs₀ (F := F)) 𝒱₀ c none) Set.univ
          (.op (.load m (Rect.unit (s := S2x1024x1024) off S1x1024x1024.size inb).toLoadRect hl) K) Q) := by
  subst hm; subst ho
  unfold oslot
  iintro ⟨%f, %hf, H⟩ Hk
  subst hf
  iapply (wp_load_rect 𝒱₀ (c : Thread nD τ) none Set.univ (m := oM) (r := r2 j) (S := (oS j).view.set)
    (sub_oS j)) $$ H
  iintro H
  iapply Hk
  iexists f
  isplitr; · (ipureintro; rfl)
  iexact H

/-- Overwriting a staging slot. -/
theorem wp_store_oslot (c : Dev nD) (j : Fin 2) (v w : Vec F S1x1024x1024 .f32)
    {m : Memref sig .tc .vmem S2x1024x1024 .f32} (hm : m = oM)
    {off : Fin 3 → ℕ} {inb} (ho : off = ![j.val, 0, 0])
    {hx : (m.access (Rect.unit (s := S2x1024x1024) off S1x1024x1024.size inb)).Stores Finset.univ} {hu}
    {α : Type} {Q : α → sProp 𝕄} {K : PUnit → Prog (TpuEff nD τ sig (Elt F) Λ₀ .tc) α} :
    oslot c j v ⊢ iprop((oslot c j w -∗ wp frame (wpE (defs₀ (F := F)) 𝒱₀ c none) Set.univ (K ⟨⟩) Q)
      -∗ wp frame (wpE (defs₀ (F := F)) 𝒱₀ c none) Set.univ
          (.op (.store m (Rect.unit (s := S2x1024x1024) off S1x1024x1024.size inb) w Finset.univ hx hu) K) Q) := by
  subst hm; subst ho
  unfold oslot
  iintro ⟨%f, -, H⟩ Hk
  iapply (wp_store 𝒱₀ (c : Thread nD τ) none Set.univ (m := oM) (r := r2 j) (Mk := Finset.univ) (S := (oS j).view.set)
    (sub_oS j)) $$ H
  iintro H
  iapply Hk
  iexists (((oM).access (r2 j)).write (Elt F) f w Finset.univ)
  isplitr
  · ipureintro
    exact View.read_write_univ (v := (oM).access (r2 j)) f w
  iexact H

/-! ## What a transfer leaves -/

omit [FloatOps F] in
/-- A receive slot after a transfer from another slot reads what that slot held. -/
theorem read_sent (b : Bool) (c : Dev nD) (k k' : Fin 5) (fs fd : (cM b).view.ty.Contents (Elt F)) :
    (cM b).view.readAt (Elt F) (r5 k').toLoadRect ((cS b k').view.write (Elt F) fd ((cS b k).view.read (Elt F) fs) Finset.univ)
      = (cM b).view.readAt (Elt F) (r5 k).toLoadRect fs := by
  funext x
  have h := View.read_write_reshape ((cM b).access (r5 k')) (squeezes_S1x1024x1024_S1024x1024).numel_eq fd
    ((cS b k).view.read (Elt F) fs) ((Shape.reshapeEquiv (squeezes_S1x1024x1024_S1024x1024).numel_eq).symm x)
  rw [Equiv.apply_symm_apply] at h
  refine h.trans ?_
  show ((cM b).access (r5 k)).read (Elt F) fs (Shape.reshapeEquiv (squeezes_S1x1024x1024_S1024x1024).numel_eq
    ((Shape.reshapeEquiv (squeezes_S1x1024x1024_S1024x1024).numel_eq).symm x)) = _
  rw [Equiv.apply_symm_apply]; rfl

omit [FloatOps F] in
/-- An output block after a copy from a staging slot reads that slot's contents without the unit axis. -/
theorem read_copied (j : Fin 2) (n : Fin 8) (fs : (oM).view.ty.Contents (Elt F)) (fd : (yM).view.ty.Contents (Elt F)) :
    (yS n).view.read (Elt F) ((yS n).view.write (Elt F) fd ((oS j).view.read (Elt F) fs) Finset.univ)
      = shapeCast S1024x1024 ((oM).view.readAt (Elt F) (r2 j).toLoadRect fs) sq5 := by
  rw [View.read_write_univ]; rfl

/-! ## The operands -/

/-- Row block `j` of a left operand, column block `n` of a right operand. -/
def xch (X : Vec F S4096x1024 .i8) (j : Fin 4) : Vec F S1024x1024 .i8 := fun i => X ((rX j).emb i)
def wch (W : Vec F S1024x8192 .i8) (n : Fin 8) : Vec F S1024x1024 .i8 := fun i => W ((rY n).emb i)

def xPts (c : Dev nD) (X : Vec F S4096x1024 .i8) : sProp 𝕄 :=
  (((c : Dev nD) : Thread nD τ).loc cc0_stg0_0) ↦{fullShare} (X : (cc0_stg0_0 : Ref sig .tc).ty.Contents (Elt F))
def wPts (c : Dev nD) (W : Vec F S1024x8192 .i8) : sProp 𝕄 :=
  (((c : Dev nD) : Thread nD τ).loc cc0_stg1_0) ↦{fullShare} (W : (cc0_stg1_0 : Ref sig .tc).ty.Contents (Elt F))

/-- Loading a row block of the left operand. -/
theorem wp_load_x (c : Dev nD) (j : Fin 4) (X : Vec F S4096x1024 .i8)
    {m : Memref sig .tc .vmem S4096x1024 .i8} (hm : m = Memref.whole cc0_stg0_0)
    {off : Fin 2 → ℕ} {inb} (ho : off = ![1024 * j.val, 0])
    {hl : m.view.LoadsAt (Rect.unit (s := S4096x1024) off S1024x1024.size inb).toLoadRect}
    {α : Type} {Q : α → sProp 𝕄} {K : Vec F S1024x1024 .i8 → Prog (TpuEff nD τ sig (Elt F) Λ₀ .tc) α} :
    xPts c X ⊢ iprop((xPts c X -∗ wp frame (wpE (defs₀ (F := F)) 𝒱₀ c none) Set.univ (K (xch X j)) Q)
      -∗ wp frame (wpE (defs₀ (F := F)) 𝒱₀ c none) Set.univ
          (.op (.load m (Rect.unit (s := S4096x1024) off S1024x1024.size inb).toLoadRect hl) K) Q) := by
  subst hm; subst ho
  exact wp_load_rect 𝒱₀ (c : Thread nD τ) none Set.univ (m := Memref.whole cc0_stg0_0) (r := rX j) (Finset.subset_univ _)

/-- Loading a column block of the right operand. -/
theorem wp_load_w (c : Dev nD) (n : Fin 8) (W : Vec F S1024x8192 .i8)
    {m : Memref sig .tc .vmem S1024x8192 .i8} (hm : m = Memref.whole cc0_stg1_0)
    {off : Fin 2 → ℕ} {inb} (ho : off = ![0, 1024 * n.val])
    {hl : m.view.LoadsAt (Rect.unit (s := S1024x8192) off S1024x1024.size inb).toLoadRect}
    {α : Type} {Q : α → sProp 𝕄} {K : Vec F S1024x1024 .i8 → Prog (TpuEff nD τ sig (Elt F) Λ₀ .tc) α} :
    wPts c W ⊢ iprop((wPts c W -∗ wp frame (wpE (defs₀ (F := F)) 𝒱₀ c none) Set.univ (K (wch W n)) Q)
      -∗ wp frame (wpE (defs₀ (F := F)) 𝒱₀ c none) Set.univ
          (.op (.load m (Rect.unit (s := S1024x8192) off S1024x1024.size inb).toLoadRect hl) K) Q) := by
  subst hm; subst ho
  exact wp_load_rect 𝒱₀ (c : Thread nD τ) none Set.univ (m := Memref.whole cc0_stg1_0) (r := rY n) (Finset.subset_univ _)

end Ops

end Cert.RingProof

end
-- ==== Proof.Ring.lean ====
/-
# The ring protocol: who sends what to whom, and on which semaphore

The matrix product is reduced round the ring twelve times over, in two directions at once. Step `t` (of twelve) moves
a partial sum of direction `b` from slot `ks t` of a device to slot `kr t` of the next device in that direction. This
module states the slots, the values in them, the semaphores' rounds and what each semaphore hands over.
-/
module

public import proofs.«01_k».proof.Proof.Slots

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Steps, slots and rounds -/

/-- The slot step `t` sends from, and the slot it lands in. -/
def ks : Fin 12 → Fin 5 := ![0, 1, 2, 4, 0, 1, 3, 4, 0, 2, 3, 4]
def kr : Fin 12 → Fin 5 := ![1, 2, 3, 0, 1, 2, 4, 0, 1, 3, 4, 0]
/-- How often the step's semaphores were used before: the sending slot's, and the landing slot's. -/
def rs : Fin 12 → ℕ := ![0, 0, 0, 0, 1, 1, 0, 1, 2, 1, 1, 2]
def rr : Fin 12 → ℕ := ![0, 0, 0, 0, 1, 1, 0, 1, 2, 1, 1, 2]
/-- How often each slot's semaphores are used in all. -/
def nS : Fin 5 → ℕ := ![3, 2, 2, 2, 3]
def nR : Fin 5 → ℕ := ![3, 3, 2, 2, 2]
/-- The step using slot `k` for the `r`-th time. -/
def stS (k : Fin 5) (r : ℕ) : Fin 12 := ((List.finRange 12).find? fun t => decide (ks t = k ∧ rs t = r)).getD 0
def stR (k : Fin 5) (r : ℕ) : Fin 12 := ((List.finRange 12).find? fun t => decide (kr t = k ∧ rr t = r)).getD 0

theorem stS_ks (t : Fin 12) : stS (ks t) (rs t) = t := by revert t; decide
theorem stR_kr (t : Fin 12) : stR (kr t) (rr t) = t := by revert t; decide
theorem rs_lt (t : Fin 12) : rs t < nS (ks t) := by revert t; decide
theorem rr_lt (t : Fin 12) : rr t < nR (kr t) := by revert t; decide

/-! ## What the devices compute -/

/-- What each device starts from: its block of columns of the left operand, its block of rows of the right one, and the
two scales. -/
structure Ins (F : FTy → Type) where
  x : Dev nD → Vec F S4096x1024 .i8
  w : Dev nD → Vec F S1024x8192 .i8
  a : Dev nD → Vec F S1 .f32
  b : Dev nD → Vec F S1 .f32

/-- The block of rows that direction `b` works on at stage `s` of a reduction, on device `c`. -/
def chunk (b : Bool) : ℕ → Dev nD → Dev nD
  | 0, c => bw b c
  | s + 1, c => bw b (chunk b s c)

/-- The column block reduction `p` of direction `b` computes. -/
def col (b : Bool) (p : Fin 4) : Fin 8 := ⟨2 * p.val + b.toNat, by revert b p; decide⟩

variable (I : Ins F)

/-- A device's own product of one block of rows with one block of columns. -/
def part (b : Bool) (p : Fin 4) (s : ℕ) (c : Dev nD) : FVec F S1024x1024 .f32 :=
  k0_pay4 (xch (I.x c) (chunk b s c)) (wch (I.w c) (col b p))

/-- The partial sum device `c` sends at stage `s` of reduction `p`: its own product, added from stage one on to what
the device behind it sent. -/
def SP (b : Bool) (p : Fin 4) : ℕ → Dev nD → Vec F S1x1024x1024 .bf16
  | 0, c => k0_pay2 (xch (I.x c) (chunk b 0 c)) (wch (I.w c) (col b p))
  | s + 1, c => k0_pay8 (part I b p (s + 1) c) (SP b p s (bw b c))

/-- The reduction step `t` belongs to, and its stage. -/
def pOf (t : Fin 12) : Fin 4 := ⟨t.val / 3, by omega⟩
def S (b : Bool) (c : Dev nD) (t : Fin 12) : Vec F S1x1024x1024 .bf16 := SP I b (pOf t) (t.val % 3) c

/-- The product of the scales. -/
def scale (c : Dev nD) : F .f32 :=
  k0_pay1 (I.a c (Shape.Idx.first (numel1_S1.symm ▸ Nat.one_pos))) (I.b c (Shape.Idx.first (numel1_S1.symm ▸ Nat.one_pos)))

/-- The finished block: the device's own product added to the last partial sum received, times the scales. -/
def fin (b : Bool) (p : Fin 4) (c : Dev nD) : Vec F S1x1024x1024 .f32 :=
  k0_pay17 (scale I c) (xch (I.x c) c) (wch (I.w c) (col b p)) (SP I b p 2 (bw b c))

def nbB (n : Fin 8) : Bool := n.val % 2 == 1
def nbP (n : Fin 8) : Fin 4 := ⟨n.val / 2, by omega⟩
def outv (c : Dev nD) (n : Fin 8) : Vec F S1x1024x1024 .f32 := fin I (nbB n) (nbP n) c
def outw (c : Dev nD) (n : Fin 8) : Vec F S1024x1024 .f32 := shapeCast S1024x1024 (outv I c n) sq5

/-! ## Semaphores -/

def sS (b : Bool) (k : Fin 5) : DmaSem sig := ⟨4 + 10 * b.toNat + k.val, by revert b k; decide⟩
def sR (b : Bool) (k : Fin 5) : DmaSem sig := ⟨9 + 10 * b.toNat + k.val, by revert b k; decide⟩
def sO (j : Fin 2) : DmaSem sig := ⟨24 + j.val, by revert j; decide⟩
abbrev barS : Sem sig := (SemArray.scalar (sig.barrier 0 rfl) : Sems sig S_).sem

abbrev sendC (b : Bool) (k : Fin 5) (c : Dev nD) : GSem nD τ sig := ((c : Thread nD τ), .dma (sS b k))
abbrev recvC (b : Bool) (k : Fin 5) (c : Dev nD) : GSem nD τ sig := ((c : Thread nD τ), .dma (sR b k))
abbrev outC (j : Fin 2) (c : Dev nD) : GSem nD τ sig := ((c : Thread nD τ), .dma (sO j))
abbrev barC (c : Dev nD) : GSem nD τ sig := ((c : Thread nD τ), .reg barS)

/-- What a semaphore is for. -/
inductive Use
  | bar
  | send (b : Bool) (k : Fin 5)
  | recv (b : Bool) (k : Fin 5)
  | out (j : Fin 2)
  | other
deriving DecidableEq

/-- The kernel's own transfer semaphores, in order. -/
def uses : List Use :=
  [.other, .other, .other, .other,
   .send false 0, .send false 1, .send false 2, .send false 3, .send false 4,
   .recv false 0, .recv false 1, .recv false 2, .recv false 3, .recv false 4,
   .send true 0, .send true 1, .send true 2, .send true 3, .send true 4,
   .recv true 0, .recv true 1, .recv true 2, .recv true 3, .recv true 4,
   .out 0, .out 1]
def useOf : SemLoc sig → Use
  | .reg _ => .bar
  | .dma q => uses.getD q.val .other

theorem use_send (b : Bool) (k : Fin 5) : useOf (.dma (sS b k)) = .send b k := by revert b k; decide
theorem use_recv (b : Bool) (k : Fin 5) : useOf (.dma (sR b k)) = .recv b k := by revert b k; decide
theorem use_out (j : Fin 2) : useOf (.dma (sO j)) = .out j := by revert j; decide
theorem use_bar : useOf (.reg barS) = .bar := rfl

/-! ## What the semaphores hand over -/

/-- What a device needs to make step `t` in direction `b`: the slot of the device ahead, ready for it. -/
def grant (b : Bool) (c : Dev nD) (t : Fin 12) : sProp 𝕄 :=
  iprop(anySlot b (fw b c) (kr t) ∗ reached ER (recvC b (kr t) (fw b c)) (rr t))

/-- What a landing of step `t` in direction `b` lets the receiver do: the step after it in the other direction. -/
def grantNext (b : Bool) (c : Dev nD) (t : Fin 12) : sProp 𝕄 :=
  if h : t.val + 1 < 12 then grant (!b) c ⟨t.val + 1, h⟩ else iprop(emp)

/-- The same resource from the side of the device giving it up. -/
def ownNext (b : Bool) (c : Dev nD) (t : Fin 12) : sProp 𝕄 :=
  if h : t.val + 1 < 12 then anySlot (!b) c (kr ⟨t.val + 1, h⟩) else iprop(emp)

def recvPay (b : Bool) (c : Dev nD) (t : Fin 12) : sProp 𝕄 :=
  iprop(slot b c (kr t) (S I b (bw b c) t) ∗ grantNext b c t)
def outPay (c : Dev nD) (n : Fin 8) : sProp 𝕄 :=
  iprop(oslot c ⟨n.val % 2, Nat.mod_lt _ (by decide)⟩ (outv I c n) ∗ yblk c n (outw I c n))
def nbOf (j : Fin 2) (r : ℕ) : Fin 8 := ⟨(2 * r + j.val) % 8, Nat.mod_lt _ (by decide)⟩

def pay (u : Use) (c : Dev nD) (r : ℕ) (d : Bool) : sProp 𝕄 :=
  match u with
  | .bar => grant d c 0
  | .send b k => slot b c k (S I b c (stS k r))
  | .recv b k => recvPay I b c (stR k r)
  | .out j => outPay I c (nbOf j r)
  | .other => iprop(emp)

def dutiesOf (u : Use) (r : ℕ) : Finset Bool :=
  match u with
  | .bar => if r = 0 then Finset.univ else ∅
  | .send _ k => if r < nS k then {false} else ∅
  | .recv _ k => if r < nR k then {false} else ∅
  | .out _ => if r < 4 then {false} else ∅
  | .other => ∅

def amountOf (u : Use) : ℕ :=
  match u with
  | .bar => 1
  | .out _ => NO
  | _ => N

theorem amountOf_pos (u : Use) : 0 < amountOf u := by
  cases u <;> simp only [amountOf, N_pos, NO_pos, Nat.one_pos]

/-- The protocol of the ring. -/
def Rd : Rounds.Schedule (GSem nD τ sig) Bool 𝕄 where
  duties g r := if g.1.2 = .tc then dutiesOf (useOf g.2) r else ∅
  unitless _ := False
  amount g _ _ := amountOf (useOf g.2)
  payload g r d := pay I (useOf g.2) g.1.1 r d
  amount_pos g _ _ _ := amountOf_pos _

omit [FloatOps F] in
instance grant_storable (b : Bool) (c : Dev nD) (t : Fin 12) : BI.Storable (upEmb : UEmb _ 𝕄) (grant (F := F) b c t) := by
  unfold grant; infer_instance
omit [FloatOps F] in
instance grantNext_storable (b : Bool) (c : Dev nD) (t : Fin 12) : BI.Storable (upEmb : UEmb _ 𝕄) (grantNext (F := F) b c t) := by
  unfold grantNext; split <;> infer_instance
instance Rd_storable (g : GSem nD τ sig) (r : ℕ) (d : Bool) : BI.Storable (upEmb : UEmb _ 𝕄) ((Rd I).payload g r d) := by
  show BI.Storable upEmb (pay I (useOf g.2) g.1.1 r d)
  unfold pay recvPay outPay
  split <;> infer_instance

section Sched
variable (b : Bool) (c : Dev nD) (t : Fin 12) (n : Fin 8)

theorem duties_tc (sm : SemLoc sig) (r : ℕ) : (Rd I).duties ((c : Thread nD τ), sm) r = dutiesOf (useOf sm) r := by
  dsimp only [Rd]; exact if_pos rfl
theorem duties_send : (Rd I).duties (sendC b (ks t) c) (rs t) = {false} := by
  rw [duties_tc, use_send]; exact if_pos (rs_lt t)
theorem duties_recv : (Rd I).duties (recvC b (kr t) c) (rr t) = {false} := by
  rw [duties_tc, use_recv]; exact if_pos (rr_lt t)
theorem duties_out (j : Fin 2) (r : ℕ) (h : r < 4) : (Rd I).duties (outC j c) r = {false} := by
  rw [duties_tc, use_out]; exact if_pos h
theorem duties_bar : (Rd I).duties (barC c) 0 = Finset.univ := by
  rw [duties_tc, use_bar]; rfl

theorem amount_send (k : Fin 5) (r : ℕ) (d : Bool) : (Rd I).amount (sendC b k c) r d = N := by
  show amountOf (useOf (.dma (sS b k))) = _; rw [use_send]; rfl
theorem amount_recv (k : Fin 5) (r : ℕ) (d : Bool) : (Rd I).amount (recvC b k c) r d = N := by
  show amountOf (useOf (.dma (sR b k))) = _; rw [use_recv]; rfl
theorem amount_out (j : Fin 2) (r : ℕ) (d : Bool) : (Rd I).amount (outC j c) r d = NO := by
  show amountOf (useOf (.dma (sO j))) = _; rw [use_out]; rfl
theorem amount_bar (r : ℕ) (d : Bool) : (Rd I).amount (barC c) r d = 1 := rfl

theorem expect_send : (Rd I).expect (sendC b (ks t) c) (rs t) = N := by
  unfold Schedule.expect Schedule.amountOf; rw [duties_send, Finset.sum_singleton, amount_send]
theorem expect_recv : (Rd I).expect (recvC b (kr t) c) (rr t) = N := by
  unfold Schedule.expect Schedule.amountOf; rw [duties_recv, Finset.sum_singleton, amount_recv]
theorem expect_out (j : Fin 2) (r : ℕ) (h : r < 4) : (Rd I).expect (outC j c) r = NO := by
  unfold Schedule.expect Schedule.amountOf; rw [duties_out I c j r h, Finset.sum_singleton, amount_out]
theorem expect_bar : (Rd I).expect (barC c) 0 = 2 := by
  unfold Schedule.expect Schedule.amountOf; rw [duties_bar]; rfl

theorem pay_send (d : Bool) : (Rd I).payload (sendC b (ks t) c) (rs t) d = slot b c (ks t) (S I b c t) := by
  show pay I (useOf (.dma (sS b (ks t)))) c (rs t) d = _
  rw [use_send]; show slot b c (ks t) (S I b c (stS (ks t) (rs t))) = _; rw [stS_ks]
theorem pay_recv (d : Bool) : (Rd I).payload (recvC b (kr t) c) (rr t) d = recvPay I b c t := by
  show pay I (useOf (.dma (sR b (kr t)))) c (rr t) d = _
  rw [use_recv]; show recvPay I b c (stR (kr t) (rr t)) = _; rw [stR_kr]
theorem pay_out (j : Fin 2) (r : ℕ) (d : Bool) : (Rd I).payload (outC j c) r d = outPay I c (nbOf j r) := by
  show pay I (useOf (.dma (sO j))) c r d = _
  rw [use_out]; rfl
theorem pay_bar (d : Bool) : (Rd I).payload (barC c) 0 d = grant d c 0 := rfl

theorem rest_send : bigSep ((Rd I).duties (sendC b (ks t) c) (rs t) \ ∅) (fun d => (Rd I).payload (sendC b (ks t) c) (rs t) d)
    = slot b c (ks t) (S I b c t) := by
  rw [Finset.sdiff_empty, duties_send, bigSep_singleton, pay_send]
theorem rest_recv : bigSep ((Rd I).duties (recvC b (kr t) c) (rr t) \ ∅) (fun d => (Rd I).payload (recvC b (kr t) c) (rr t) d)
    = recvPay I b c t := by
  rw [Finset.sdiff_empty, duties_recv, bigSep_singleton, pay_recv]
theorem rest_out (j : Fin 2) (r : ℕ) (h : r < 4) :
    bigSep ((Rd I).duties (outC j c) r \ ∅) (fun d => (Rd I).payload (outC j c) r d) = outPay I c (nbOf j r) := by
  rw [Finset.sdiff_empty, duties_out I c j r h, bigSep_singleton, pay_out]
theorem rest_bar : bigSep ((Rd I).duties (barC c) 0 \ ∅) (fun d => (Rd I).payload (barC c) 0 d)
    = iprop(grant false c 0 ∗ grant true c 0) := by
  rw [Finset.sdiff_empty, duties_bar]
  exact bigSep_univ_eq_bigSepL [false, true] (by decide) (by decide) _

/-- Past its last round a semaphore has nothing to hand over. -/
theorem duties_later_send (k : Fin 5) : ∀ r, nS k ≤ r → (Rd I).duties (sendC b k c) r = ∅ := fun r hr => by
  rw [duties_tc, use_send]; exact if_neg (by omega)
theorem duties_later_recv (k : Fin 5) : ∀ r, nR k ≤ r → (Rd I).duties (recvC b k c) r = ∅ := fun r hr => by
  rw [duties_tc, use_recv]; exact if_neg (by omega)
theorem duties_later_out (j : Fin 2) : ∀ r, 4 ≤ r → (Rd I).duties (outC j c) r = ∅ := fun r hr => by
  rw [duties_tc, use_out]; exact if_neg (by omega)
theorem duties_later_bar : ∀ r, 1 ≤ r → (Rd I).duties (barC c) r = ∅ := fun r hr => by
  rw [duties_tc, use_bar]; exact if_neg (by omega)

end Sched

end Cert.RingProof

end
-- ==== Proof.Steps.lean ====
/-
# The moves of the ring

A device goes through the twelve steps by three kinds of moves, each at a fixed place in one order: sending (both
directions), then waiting for its own send to have left and for the neighbour's to have arrived (both directions). This
module keeps the books: what a device still owes, holds and has to collect after `n` of the seventy-two moves.
-/
module

public import proofs.«01_k».proof.Proof.Ring

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The order of moves -/

abbrev BT : Type := Bool × Fin 12
/-- The place of a send, of a wait for one's own send, of a wait for the neighbour's. -/
def spos (i : BT) : ℕ := 6 * i.2.val + i.1.toNat
def wsp (i : BT) : ℕ := 6 * i.2.val + 2 + 2 * i.1.toNat
def wrp (i : BT) : ℕ := 6 * i.2.val + 3 + 2 * i.1.toNat

theorem spos_inj (i j : BT) (h : spos i = spos j) : i = j := by revert i j; decide
theorem wsp_inj (i j : BT) (h : wsp i = wsp j) : i = j := by revert i j; decide
theorem wrp_inj (i j : BT) (h : wrp i = wrp j) : i = j := by revert i j; decide
theorem spos_ne_wsp (i j : BT) : spos i ≠ wsp j := by revert i j; decide
theorem spos_ne_wrp (i j : BT) : spos i ≠ wrp j := by revert i j; decide
theorem wsp_ne_wrp (i j : BT) : wsp i ≠ wrp j := by revert i j; decide

/-- How many of the sends out of a slot, or of the arrivals into it, were waited for in the first `n` moves. -/
def cntS (x : Bool × Fin 5) (n : ℕ) : ℕ := ((List.finRange 12).filter fun t => decide (ks t = x.2) && decide (wsp (x.1, t) < n)).length
def cntR (x : Bool × Fin 5) (n : ℕ) : ℕ := ((List.finRange 12).filter fun t => decide (kr t = x.2) && decide (wrp (x.1, t) < n)).length

/-! ## Indexed families -/

omit [FloatOps F] in
theorem emp_sep_is (P : sProp 𝕄) : iprop(emp ∗ P) = P := equiv_iff.mp BI.emp_sep

/-- The members of a family whose place is `n` or later. -/
def fam {A : Type} [Fintype A] (pos : A → ℕ) (n : ℕ) (X : A → sProp 𝕄) : sProp 𝕄 := bigSep Finset.univ fun i => if n ≤ pos i then X i else iprop(emp)

omit [FloatOps F] in
/-- The member at place `n` comes out. -/
theorem fam_take {A : Type} [Fintype A] [DecidableEq A] (pos : A → ℕ) (hinj : ∀ i j, pos i = pos j → i = j) (X : A → sProp 𝕄) (i : A) :
    fam pos (pos i) X = iprop(X i ∗ fam pos (pos i + 1) X) := by
  unfold fam
  rw [bigSep_univ_at _ i, if_pos le_rfl, bigSep_univ_at (fun j => if pos i + 1 ≤ pos j then X j else iprop(emp)) i,
    if_neg (by omega : ¬ pos i + 1 ≤ pos i), emp_sep_is]
  congr 1
  refine bigSep_congr fun j hj => ?_
  have hne : pos j ≠ pos i := fun h => (Finset.mem_erase.mp hj).1 (hinj _ _ h)
  by_cases h : pos i ≤ pos j
  · rw [if_pos h, if_pos (by omega)]
  · rw [if_neg h, if_neg (by omega)]

omit [FloatOps F] in
/-- A move that is none of the family's leaves it as it was. -/
theorem fam_skip {A : Type} [Fintype A] (pos : A → ℕ) (n : ℕ) (hn : ∀ j, pos j ≠ n) (X : A → sProp 𝕄) : fam pos n X = fam pos (n + 1) X := by
  unfold fam
  refine bigSep_congr fun j _ => ?_
  have := hn j
  by_cases h : n ≤ pos j
  · rw [if_pos h, if_pos (by omega)]
  · rw [if_neg h, if_neg (by omega)]

omit [FloatOps F] in
/-- A conjunction over a whole type has each of its members. -/
theorem all_one {A : Type} [Fintype A] [DecidableEq A] (X : A → sProp 𝕄) (i : A) : bigSep Finset.univ X ⊢ X i :=
  bigSep_elim (Finset.mem_univ i)

omit [FloatOps F] in
/-- One member of an array out, and a changed one back. -/
theorem arr_at {A : Type} [Fintype A] [DecidableEq A] (X : A → ℕ → sProp 𝕄) (f g : A → ℕ) (i : A) (h : ∀ j, j ≠ i → f j = g j) :
    (bigSep Finset.univ fun j => X j (f j)) ⊢ iprop(X i (f i) ∗ (X i (g i) -∗ bigSep Finset.univ fun j => X j (g j))) := by
  rw [bigSep_univ_at (fun j => X j (f j)) i, bigSep_univ_at (fun j => X j (g j)) i,
    bigSep_congr (s := Finset.univ.erase i) (Φ := fun j => X j (f j)) (Ψ := fun j => X j (g j)) fun j hj => by rw [h j (Finset.mem_erase.mp hj).1]]
  iintro ⟨H, Hr⟩
  isplitl [H]; · iexact H
  iintro H
  isplitl [H] <;> iassumption

/-! ## What is owed, and the order of waits -/

/-- The landings a device still owes after `n` moves. -/
def O (c : Dev nD) (n : ℕ) : CellTallies nD τ sig ℕ :=
  ∑ i : BT, if n ≤ spos i then tallyAt (recvC i.1 (kr i.2) (fw i.1 c)) i.2.val N else 0

theorem O_take (c : Dev nD) (i : BT) : O c (spos i) = O c (spos i + 1) + tallyAt (recvC i.1 (kr i.2) (fw i.1 c)) i.2.val N := by
  unfold O
  rw [← Finset.add_sum_erase _ _ (Finset.mem_univ i), if_pos le_rfl, add_comm]
  congr 1
  rw [← Finset.add_sum_erase _ (fun j : BT => if spos i + 1 ≤ spos j then _ else 0) (Finset.mem_univ i),
    if_neg (by omega : ¬ spos i + 1 ≤ spos i), zero_add]
  refine Finset.sum_congr rfl fun j hj => ?_
  have hne : spos j ≠ spos i := fun h => (Finset.mem_erase.mp hj).1 (spos_inj _ _ h)
  by_cases h : spos i ≤ spos j
  · rw [if_pos h, if_pos (by omega)]
  · rw [if_neg h, if_neg (by omega)]

theorem O_skip (c : Dev nD) (n : ℕ) (hn : ∀ j, spos j ≠ n) : O c n = O c (n + 1) := by
  unfold O
  refine Finset.sum_congr rfl fun j _ => ?_
  have := hn j
  by_cases h : n ≤ spos j
  · rw [if_pos h, if_pos (by omega)]
  · rw [if_neg h, if_neg (by omega)]

theorem O_end (c : Dev nD) : O c 72 = 0 := by
  unfold O
  refine Finset.sum_eq_zero fun j _ => if_neg ?_
  revert j; decide

theorem O_pos {c : Dev nD} {n : ℕ} {g : GSem nD τ sig} {u : ℕ} (h : 0 < O c n g u) :
    ∃ i : BT, n ≤ spos i ∧ g = recvC i.1 (kr i.2) (fw i.1 c) ∧ u = i.2.val := by
  unfold O at h
  rw [Finset.sum_apply, Finsupp.finset_sum_apply] at h
  obtain ⟨i, -, hi⟩ := Finset.exists_ne_zero_of_sum_ne_zero (Nat.pos_iff_ne_zero.mp h)
  refine ⟨i, ?_⟩
  by_cases hn : n ≤ spos i
  · rw [if_pos hn, tallyAt_apply] at hi
    by_cases hc : g = recvC i.1 (kr i.2) (fw i.1 c) ∧ u = i.2.val
    · exact ⟨hn, hc⟩
    · rw [if_neg hc] at hi; exact absurd rfl hi
  · rw [if_neg hn] at hi; exact absurd rfl hi

def L (g : GSem nD τ sig) : Finset ℕ := if g.1.2 = .tc then Finset.range 12 else ∅
def lvU (u : Use) (i : ℕ) : ℕ :=
  match u with
  | .bar => 1
  | .recv _ _ => i + 2
  | _ => 0
def lv (g : GSem nD τ sig) (i : ℕ) : ℕ := lvU (useOf g.2) i
theorem L_of_ne (g : GSem nD τ sig) (h : g.1.2 ≠ .tc) : L g = ∅ := if_neg h
theorem L_tc (c : Dev nD) (sm : SemLoc sig) : L ((c : Thread nD τ), sm) = Finset.range 12 := if_pos rfl

omit [FloatOps F] in
/-- A wait at a level below everything still owed is allowed. -/
theorem mayWait (c : Dev nD) (sm : SemLoc sig) (i n : ℕ) (hi : i < 12) (h : ∀ j : BT, n ≤ spos j → lvU (useOf sm) i < j.2.val + 2) :
    (levAts L lv : sProp 𝕄) ⊢ MayWait (c : Thread nD τ) sm i (O c n) :=
  MayOwe.of_cut (L := L) (lev := lv) (lvU (useOf sm) i)
    (fun p hp => by rw [Finset.mem_singleton.mp hp, L_tc]; exact Finset.mem_range.mpr hi)
    (fun g u hg => by
      obtain ⟨j, -, rfl, rfl⟩ := O_pos hg
      rw [L_tc]; exact Finset.mem_range.mpr j.2.isLt)
    (fun p hp => by rw [Finset.mem_singleton.mp hp]; exact le_rfl)
    (fun g u hg => by
      obtain ⟨j, hj, rfl, rfl⟩ := O_pos hg
      show _ < lvU (useOf (.dma (sR j.1 (kr j.2)))) j.2.val
      rw [use_recv]; exact h j hj)

/-! ## The books -/

variable (I : Ins F)

/-- What never changes: the order of waits, and the semaphores' invariants. -/
def Env : sProp 𝕄 :=
  iprop(levAts L lv
    ∗ (bigSep Finset.univ fun x : Dev nD × Bool × Fin 5 => iprop(∃ κ, cellInv ER (Rd I) κ (sendC x.2.1 x.2.2 x.1)))
    ∗ (bigSep Finset.univ fun x : Dev nD × Bool × Fin 5 => iprop(∃ κ, cellInv ER (Rd I) κ (recvC x.2.1 x.2.2 x.1)))
    ∗ (bigSep Finset.univ fun x : Dev nD × Fin 2 => iprop(∃ κ, cellInv ER (Rd I) κ (outC x.2 x.1)))
    ∗ (bigSep Finset.univ fun x : Dev nD => iprop(∃ κ, cellInv ER (Rd I) κ (barC x))))
instance env_persistent : BI.Persistent (Env I) := by unfold Env; infer_instance

theorem env_send (b : Bool) (k : Fin 5) (c : Dev nD) : Env I ⊢ iprop(∃ κ, cellInv ER (Rd I) κ (sendC b k c)) := by
  unfold Env; iintro ⟨-, H, -⟩
  iapply (all_one (fun x : Dev nD × Bool × Fin 5 => iprop(∃ κ, cellInv ER (Rd I) κ (sendC x.2.1 x.2.2 x.1))) (c, b, k)); iexact H
theorem env_recv (b : Bool) (k : Fin 5) (c : Dev nD) : Env I ⊢ iprop(∃ κ, cellInv ER (Rd I) κ (recvC b k c)) := by
  unfold Env; iintro ⟨-, -, H, -⟩
  iapply (all_one (fun x : Dev nD × Bool × Fin 5 => iprop(∃ κ, cellInv ER (Rd I) κ (recvC x.2.1 x.2.2 x.1))) (c, b, k)); iexact H
theorem env_out (j : Fin 2) (c : Dev nD) : Env I ⊢ iprop(∃ κ, cellInv ER (Rd I) κ (outC j c)) := by
  unfold Env; iintro ⟨-, -, -, H, -⟩
  iapply (all_one (fun x : Dev nD × Fin 2 => iprop(∃ κ, cellInv ER (Rd I) κ (outC x.2 x.1))) (c, j)); iexact H
theorem env_bar (c : Dev nD) : Env I ⊢ iprop(∃ κ, cellInv ER (Rd I) κ (barC c)) := by
  unfold Env; iintro ⟨-, -, -, -, H⟩
  iapply (all_one (fun x : Dev nD => iprop(∃ κ, cellInv ER (Rd I) κ (barC x))) c); iexact H
theorem env_lev : Env I ⊢ levAts L lv := by
  unfold Env; iintro ⟨H, -⟩; iexact H

/-- A semaphore's owner before its `r`-th round. -/
def at_ (g : GSem nD τ sig) (r : ℕ) : sProp 𝕄 := iprop(atPos ER g r ∅ 0 ∗ reached ER g r)

def tokS (c : Dev nD) (i : BT) : sProp 𝕄 := dutyTok ER (sendC i.1 (ks i.2) c) (rs i.2) false
def tokR (c : Dev nD) (i : BT) : sProp 𝕄 := dutyTok ER (recvC i.1 (kr i.2) (fw i.1 c)) (rr i.2) false
def credR (c : Dev nD) (i : BT) : sProp 𝕄 := cred (tallyAt (recvC i.1 (kr i.2) c) i.2.val N)
def credS (c : Dev nD) (i : BT) : sProp 𝕄 := cred (tallyAt (sendC i.1 (ks i.2) c) 0 N)

/-- The owner's places on all the send semaphores, and on all the receive semaphores. -/
def arrS (c : Dev nD) (n : ℕ) : sProp 𝕄 := bigSep Finset.univ fun x : Bool × Fin 5 => at_ (sendC x.1 x.2 c) (cntS x n)
def arrR (c : Dev nD) (n : ℕ) : sProp 𝕄 := bigSep Finset.univ fun x : Bool × Fin 5 => at_ (recvC x.1 x.2 c) (cntR x n)

/-- What device `c` holds of the protocol after `n` moves, but for what it owes. -/
def Books (c : Dev nD) (n : ℕ) : sProp 𝕄 :=
  iprop(fam spos n (tokS c) ∗ fam spos n (tokR c) ∗ fam wrp n (credR c)
    ∗ arrS c n ∗ arrR c n)
/-- The same with what it owes. -/
def Pro (c : Dev nD) (n : ℕ) : sProp 𝕄 := iprop((∃ W, owes (c : Thread nD τ) (O c n) W) ∗ Books c n)

theorem cntS_wsp (b : Bool) (t : Fin 12) : cntS (b, ks t) (wsp (b, t)) = rs t := by revert b t; decide
theorem cntS_wsp' (b : Bool) (t : Fin 12) : cntS (b, ks t) (wsp (b, t) + 1) = rs t + 1 := by revert b t; decide
theorem cntR_wrp (b : Bool) (t : Fin 12) : cntR (b, kr t) (wrp (b, t)) = rr t := by revert b t; decide
theorem cntR_wrp' (b : Bool) (t : Fin 12) : cntR (b, kr t) (wrp (b, t) + 1) = rr t + 1 := by revert b t; decide
theorem cntS_spos (b : Bool) (t : Fin 12) : cntS (b, ks t) (spos (b, t)) = rs t := by revert b t; decide
theorem cntS_step (n : ℕ) (x : Bool × Fin 5) (h : ∀ t, wsp (x.1, t) = n → ks t ≠ x.2) : cntS x n = cntS x (n + 1) := by
  unfold cntS; congr 1; refine List.filter_congr fun t _ => ?_
  by_cases hk : ks t = x.2
  · have : wsp (x.1, t) ≠ n := fun e => h t e hk
    congr 1; exact decide_eq_decide.mpr (by omega)
  · simp only [hk, decide_false, Bool.false_and]
theorem cntR_step (n : ℕ) (x : Bool × Fin 5) (h : ∀ t, wrp (x.1, t) = n → kr t ≠ x.2) : cntR x n = cntR x (n + 1) := by
  unfold cntR; congr 1; refine List.filter_congr fun t _ => ?_
  by_cases hk : kr t = x.2
  · have : wrp (x.1, t) ≠ n := fun e => h t e hk
    congr 1; exact decide_eq_decide.mpr (by omega)
  · simp only [hk, decide_false, Bool.false_and]
/-- Before a send, the slot to be granted has seen all its earlier rounds. -/
theorem cntR_grant (b : Bool) (t : Fin 12) (h : t.val + 1 < 12) : cntR (!b, kr ⟨t.val + 1, h⟩) (spos (b, t)) = rr ⟨t.val + 1, h⟩ := by
  revert b t; decide

omit [FloatOps F] in
theorem arrS_at (c : Dev nD) (b : Bool) (k : Fin 5) (n n' : ℕ) (h : ∀ x, x ≠ (b, k) → cntS x n = cntS x n') :
    arrS (F := F) c n ⊢ iprop(at_ (sendC b k c) (cntS (b, k) n) ∗ (at_ (sendC b k c) (cntS (b, k) n') -∗ arrS c n')) := by
  have H := arr_at (F := F) (fun x r => at_ (sendC x.1 x.2 c) r) (fun x => cntS x n) (fun x => cntS x n') (b, k) h
  unfold arrS
  exact H
omit [FloatOps F] in
theorem arrR_at (c : Dev nD) (b : Bool) (k : Fin 5) (n n' : ℕ) (h : ∀ x, x ≠ (b, k) → cntR x n = cntR x n') :
    arrR (F := F) c n ⊢ iprop(at_ (recvC b k c) (cntR (b, k) n) ∗ (at_ (recvC b k c) (cntR (b, k) n') -∗ arrR c n')) := by
  have H := arr_at (F := F) (fun x r => at_ (recvC x.1 x.2 c) r) (fun x => cntR x n) (fun x => cntR x n') (b, k) h
  unfold arrR
  exact H

omit [FloatOps F] in
theorem arrS_skip (c : Dev nD) (n : ℕ) (h : ∀ i, wsp i ≠ n) : arrS (F := F) c n = arrS c (n + 1) := by
  unfold arrS
  exact bigSep_congr fun x _ => by rw [cntS_step n x fun t e => absurd e (h _)]
omit [FloatOps F] in
theorem arrR_skip (c : Dev nD) (n : ℕ) (h : ∀ i, wrp i ≠ n) : arrR (F := F) c n = arrR c (n + 1) := by
  unfold arrR
  exact bigSep_congr fun x _ => by rw [cntR_step n x fun t e => absurd e (h _)]

omit [FloatOps F] in
/-- A send semaphore's round is reached when its send's turn comes. -/
theorem arrS_reached (c : Dev nD) (b : Bool) (t : Fin 12) :
    arrS (F := F) c (spos (b, t)) ⊢ iprop(arrS c (spos (b, t)) ∗ reached ER (sendC b (ks t) c) (rs t)) := by
  iintro H
  ihave H := (arrS_at c b (ks t) (spos (b, t)) (spos (b, t)) fun _ _ => rfl) $$ H
  rw [cntS_spos]
  unfold at_
  icases H with ⟨⟨Ha, #Hr⟩, Hk⟩
  isplitl
  · iapply Hk
    isplitl; · iexact Ha
    iexact Hr
  iexact Hr

omit [FloatOps F] in
/-- What a device gives up with a send is what its neighbour may use for the next step the other way. -/
theorem grantNext_intro (c : Dev nD) (b : Bool) (t : Fin 12) :
    iprop(arrR (F := F) c (spos (b, t)) ∗ ownNext b c t) ⊢ iprop(arrR c (spos (b, t)) ∗ grantNext b (fw b c) t) := by
  unfold ownNext grantNext
  by_cases h : t.val + 1 < 12
  · rw [dif_pos h, dif_pos h]
    unfold grant
    rw [show fw (!b) (fw b c) = c from bw_fw b c]
    iintro ⟨H, Hn⟩
    ihave H := (arrR_at c (!b) (kr ⟨t.val + 1, h⟩) (spos (b, t)) (spos (b, t)) fun _ _ => rfl) $$ H
    rw [cntR_grant]
    unfold at_
    icases H with ⟨⟨Ha, #Hr⟩, Hk⟩
    isplitr [Hn]
    · iapply Hk
      isplitl; · iexact Ha
      iexact Hr
    isplitl; · iexact Hn
    iexact Hr
  · rw [dif_neg h, dif_neg h]

omit [FloatOps F] in
theorem credR_is (c : Dev nD) (b : Bool) (t : Fin 12) :
    credR (F := F) c (b, t) = cred (tallyAt (recvC b (kr t) c) t.val N) := rfl

omit [FloatOps F] in
theorem tokS_is (c : Dev nD) (b : Bool) (t : Fin 12) :
    tokS (F := F) c (b, t) = dutyTok ER (sendC b (ks t) c) (rs t) false := rfl
omit [FloatOps F] in
theorem tokR_is (c : Dev nD) (b : Bool) (t : Fin 12) :
    tokR (F := F) c (b, t) = dutyTok ER (recvC b (kr t) (fw b c)) (rr t) false := rfl

/-- The copy of a slot into the neighbour's next slot, over the two cells it pays. -/
theorem wp_send_raw (b : Bool) (t : Fin 12) (c : Dev nD) {κ₁ κ₂ : ℕ}
    {hsc : (cS b (kr t) : Memref sig (Dev.tc (fw b c) : Thread nD τ).2.kind .vmem S1024x1024 .bf16).view.ref.isScScratch = false}
    {hsrc : (cS b (ks t)).view.WordExact} {hdst : (cS b (kr t)).view.WordExact}
    {hsem : DmaTarget.Typed .vmem (.dma (sR b (kr t))) (.remote (Dev.tc (fw b c) : Thread nD τ) (cS b (kr t) : Memref sig .tc .vmem S1024x1024 .bf16) (.dma (sS b (ks t))) hsc)}
    {α : Type} {Q : α → sProp 𝕄} {k : PUnit → Prog (TpuEff nD τ sig (Elt F) Λ₀ .tc) α}
    (W : Waits sig ℕ)
    (fs : Buf (Elt F) ((cS b (ks t) : Memref sig .tc .vmem S1024x1024 .bf16).view.loc (c : Thread nD τ)))
    (fd : Buf (Elt F) ((cS b (kr t) : Memref sig .tc .vmem S1024x1024 .bf16).view.loc (fw b c : Thread nD τ)))
    (hfs : (cM b).view.readAt (Elt F) (r5 (ks t)).toLoadRect fs = S I b c t) :
    iprop(cellInv ER (Rd I) κ₁ (sendC b (ks t) c) ∗ cellInv ER (Rd I) κ₂ (recvC b (kr t) (fw b c))
        ∗ (((cS b (ks t) : Memref sig .tc .vmem S1024x1024 .bf16).view.loc (c : Thread nD τ)) ↦[(cS b (ks t)).view.set]{fullShare} fs)
        ∗ ((((cS b (kr t) : Memref sig .tc .vmem S1024x1024 .bf16).view.loc (fw b c : Thread nD τ)) ↦[(cS b (kr t)).view.set]{fullShare} fd) ∗ grantNext b (fw b c) t)
        ∗ owes (c : Thread nD τ) (O c (spos (b, t))) W
        ∗ dutyTok ER (sendC b (ks t) c) (rs t) false ∗ reached ER (sendC b (ks t) c) (rs t)
        ∗ dutyTok ER (recvC b (kr t) (fw b c)) (rr t) false ∗ reached ER (recvC b (kr t) (fw b c)) (rr t))
      ⊢ iprop(((cred (tallyAt (sendC b (ks t) c) 0 N) ∗ owes (c : Thread nD τ) (O c (spos (b, t) + 1)) W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (cS b (ks t)) (.remote (Dev.tc (fw b c) : Thread nD τ) (cS b (kr t)) (.dma (sS b (ks t))) hsc) (.dma (sR b (kr t))) hsrc hdst hsem) k) Q) :=
  Rounds.wp_send_pointsTo_with 𝒱₀ ER (Rd I) (c : Thread nD τ) none (κ₁ := κ₁) (κ₂ := κ₂)
    (sS := .dma (sS b (ks t))) (sem := .dma (sR b (kr t))) (r₁ := rs t) (r₂ := rr t) (d₁ := false) (d₂ := false) (fs := fs) (fd := fd) (F := grantNext b (fw b c) t)
    (by rw [duties_send]; exact Finset.mem_singleton_self _) (by rw [duties_recv]; exact Finset.mem_singleton_self _)
    t.val 0 N (credit_cS b (kr t)) (amount_send I b c (ks t) (rs t) false) (amount_recv I b (fw b c) (kr t) (rr t) false)
    (O c (spos (b, t) + 1)) (O_take c (b, t)) (W := W)
    (by
      rw [pay_send]; unfold slot
      iintro H; iexists fs; isplitr; · (ipureintro; exact hfs)
      iexact H)
    (by
      rw [pay_recv]; unfold recvPay slot
      iintro ⟨H, Hn⟩
      isplitr [Hn]
      · iexists _; isplitr
        · ipureintro; rw [show bw b (fw b c) = c from bw_fw b c]; exact (read_sent b (fw b c) (ks t) (kr t) fs fd).trans hfs
        iexact H
      iexact Hn)

/-! ## The three moves -/

/-- Sending step `t` in direction `b`. -/
theorem wp_ring_send (b : Bool) (t : Fin 12) (c n : Dev nD) (hn : n = fw b c)
    {src : Memref sig .tc .vmem S1024x1024 .bf16} (hs : src = cS b (ks t))
    {dst : Memref sig (Dev.tc n : Thread nD τ).2.kind .vmem S1024x1024 .bf16} (hd : dst = cS b (kr t))
    {s1 s2 : DmaSem sig} (h1 : s1 = sS b (ks t)) (h2 : s2 = sR b (kr t))
    {hsc : dst.view.ref.isScScratch = false} {hsrc : src.view.WordExact} {hdst : dst.view.WordExact}
    {hsem : DmaTarget.Typed .vmem (.dma s2) (.remote (Dev.tc n : Thread nD τ) dst (.dma s1) hsc)}
    {α : Type} {Q : α → sProp 𝕄} {k : PUnit → Prog (TpuEff nD τ sig (Elt F) Λ₀ .tc) α} :
    Env I ⊢ iprop(Pro c (spos (b, t)) -∗ slot b c (ks t) (S I b c t) -∗ grant b c t -∗ ownNext b c t
      -∗ ((Pro c (spos (b, t) + 1) ∗ credS c (b, t)) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote (Dev.tc n : Thread nD τ) dst (.dma s1) hsc) (.dma s2) hsrc hdst hsem) k) Q) := by
  subst hn; subst hs; subst hd; subst h1; subst h2
  unfold Pro Books grant slot anySlot credS
  iintro #HE ⟨⟨%W, HO⟩, HtS, HtR, HcR, HaS, HaR⟩ Hs ⟨Hd, #HrR⟩ Hn Hk
  ihave H := (arrS_reached c b t) $$ HaS
  icases H with ⟨HaS, #HrS⟩
  ihave H := (grantNext_intro c b t) $$ [HaR Hn]
  · isplitl [HaR] <;> iassumption
  icases H with ⟨HaR, Hn⟩
  ihave H := (Entails.of_eq (fam_take spos spos_inj (tokS c) (b, t))) $$ HtS
  icases H with ⟨Ht1, HtS⟩
  ihave Ht1 := (Entails.of_eq (tokS_is c b t)) $$ Ht1
  ihave H := (Entails.of_eq (fam_take spos spos_inj (tokR c) (b, t))) $$ HtR
  icases H with ⟨Ht2, HtR⟩
  ihave Ht2 := (Entails.of_eq (tokR_is c b t)) $$ Ht2
  ihave HcR := (Entails.of_eq (fam_skip wrp (spos (b, t)) (fun j => (spos_ne_wrp (b, t) j).symm) (credR c))) $$ HcR
  ihave HaS := (Entails.of_eq (arrS_skip c (spos (b, t)) (fun j => (spos_ne_wsp (b, t) j).symm))) $$ HaS
  ihave HaR := (Entails.of_eq (arrR_skip c (spos (b, t)) (fun j => (spos_ne_wrp (b, t) j).symm))) $$ HaR
  ihave H := (env_send I b (ks t) c) $$ HE
  icases H with ⟨%κ₁, #HI1⟩
  ihave H := (env_recv I b (kr t) (fw b c)) $$ HE
  icases H with ⟨%κ₂, #HI2⟩
  icases Hs with ⟨%fs, %hfs, Hs⟩
  icases Hd with ⟨%fd, Hd⟩
  iapply (wp_send_raw I b t c (κ₁ := κ₁) (κ₂ := κ₂) W fs fd hfs) $$ [HO Hs Hd Hn Ht1 Ht2]
  · isplitr; · iexact HI1
    isplitr; · iexact HI2
    isplitl [Hs]; · iexact Hs
    isplitl [Hd Hn]
    · isplitl [Hd] <;> iassumption
    isplitl [HO]; · iexact HO
    isplitl [Ht1]; · iexact Ht1
    isplitr; · iexact HrS
    isplitl [Ht2]; · iexact Ht2
    iexact HrR
  iintro ⟨Hc, HO⟩
  iapply Hk
  isplitr [Hc]
  · isplitl [HO]; · (iexists W; iexact HO)
    isplitl [HtS]; · iexact HtS
    isplitl [HtR]; · iexact HtR
    isplitl [HcR]; · iexact HcR
    isplitl [HaS] <;> iassumption
  iexact Hc

/-- Waiting for one's own send of step `t` in direction `b`: the slot sent from is free again. -/
theorem wp_ring_left (b : Bool) (t : Fin 12) (c : Dev nD)
    {s1 : DmaSem sig} (h1 : s1 = sS b (ks t))
    {src dst : Memref sig .tc .vmem S1024x1024 .bf16} (hd : dst.view.dmaCredit = N)
    {hsrc hdst} {α : Type} {Q : α → sProp 𝕄} {k : PUnit → Prog (TpuEff nD τ sig (Elt F) Λ₀ .tc) α} :
    Env I ⊢ iprop(Pro c (wsp (b, t)) -∗ credS c (b, t)
      -∗ ((Pro c (wsp (b, t) + 1) ∗ slot b c (ks t) (S I b c t)) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 s1 src dst hsrc hdst) k) Q) := by
  subst h1
  unfold Pro Books credS
  iintro #HE ⟨⟨%W, HO⟩, HtS, HtR, HcR, HaS, HaR⟩ Hc Hk
  ihave H := (arrS_at c b (ks t) (wsp (b, t)) (wsp (b, t) + 1) (fun x hx => cntS_step _ x fun t' e hk => hx (by
    obtain ⟨b', k'⟩ := x
    have := wsp_inj (b', t') (b, t) e
    cases this; cases hk; rfl))) $$ HaS
  rw [cntS_wsp, cntS_wsp']
  unfold at_
  icases H with ⟨⟨Ha, -⟩, HaS⟩
  ihave H := (env_send I b (ks t) c) $$ HE
  icases H with ⟨%κ, #HI⟩
  ihave HtS := (Entails.of_eq (fam_skip spos (wsp (b, t)) (fun j => spos_ne_wsp j (b, t)) (tokS c))) $$ HtS
  ihave HtR := (Entails.of_eq (fam_skip spos (wsp (b, t)) (fun j => spos_ne_wsp j (b, t)) (tokR c))) $$ HtR
  ihave HcR := (Entails.of_eq (fam_skip wrp (wsp (b, t)) (fun j => (wsp_ne_wrp (b, t) j).symm) (credR c))) $$ HcR
  ihave HaR := (Entails.of_eq (arrR_skip c (wsp (b, t)) (fun j => (wsp_ne_wrp (b, t) j).symm))) $$ HaR
  iapply (Rounds.wp_wait_rest_token 𝒱₀ ER (Rd I) (c : Thread nD τ) none (κ := κ)
      (wpE_waitDma2_eq 𝒱₀ (c : Thread nD τ) none Set.univ) (Set.mem_univ _) 0 (O := O c (wsp (b, t))) (W := W) (R := rs t) (m := 0) (T := ∅)
      (by rw [Nat.zero_add, expect_send]; exact hd)) $$ [Hc HO Ha]
  · isplitr; · iexact HI
    isplitl [Hc]; · rw [hd]; iexact Hc
    isplitl [HO]; · iexact HO
    isplitr
    · iapply (mayWait c (.dma (sS b (ks t))) 0 (wsp (b, t)) (by decide) (fun j _ => by rw [use_send]; exact Nat.succ_pos _))
      iapply (env_lev I); iexact HE
    iexact Ha
  iintro ⟨HO, Ha, #Hr, Hpay⟩
  ihave Hs := (Entails.of_eq (rest_send I b c t)) $$ Hpay
  iapply Hk
  isplitr [Hs]
  · isplitl [HO]; · (iexists _; rw [← O_skip c (wsp (b, t)) fun j => spos_ne_wsp j (b, t)]; iexact HO)
    isplitl [HtS]; · iexact HtS
    isplitl [HtR]; · iexact HtR
    isplitl [HcR]; · iexact HcR
    isplitr [HaR]
    · iapply HaS; isplitl; · iexact Ha
      iexact Hr
    iexact HaR
  iexact Hs

/-- Waiting for the neighbour's send of step `t` in direction `b`: its partial sum, and leave for the next step. -/
theorem wp_ring_come (b : Bool) (t : Fin 12) (c : Dev nD)
    {s1 : DmaSem sig} (h1 : s1 = sR b (kr t))
    {src dst : Memref sig .tc .vmem S1024x1024 .bf16} (hd : dst.view.dmaCredit = N)
    {hsrc hdst} {α : Type} {Q : α → sProp 𝕄} {k : PUnit → Prog (TpuEff nD τ sig (Elt F) Λ₀ .tc) α} :
    Env I ⊢ iprop(Pro c (wrp (b, t))
      -∗ ((Pro c (wrp (b, t) + 1) ∗ slot b c (kr t) (S I b (bw b c) t) ∗ grantNext b c t)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 s1 src dst hsrc hdst) k) Q) := by
  subst h1
  unfold Pro Books
  iintro #HE ⟨⟨%W, HO⟩, HtS, HtR, HcR, HaS, HaR⟩ Hk
  ihave H := (arrR_at c b (kr t) (wrp (b, t)) (wrp (b, t) + 1) (fun x hx => cntR_step _ x fun t' e hk => hx (by
    obtain ⟨b', k'⟩ := x
    have := wrp_inj (b', t') (b, t) e
    cases this; cases hk; rfl))) $$ HaR
  rw [cntR_wrp, cntR_wrp']
  unfold at_
  icases H with ⟨⟨Ha, -⟩, HaR⟩
  ihave H := (env_recv I b (kr t) c) $$ HE
  icases H with ⟨%κ, #HI⟩
  ihave HtS := (Entails.of_eq (fam_skip spos (wrp (b, t)) (fun j => spos_ne_wrp j (b, t)) (tokS c))) $$ HtS
  ihave HtR := (Entails.of_eq (fam_skip spos (wrp (b, t)) (fun j => spos_ne_wrp j (b, t)) (tokR c))) $$ HtR
  ihave H := (Entails.of_eq (fam_take wrp wrp_inj (credR c) (b, t))) $$ HcR
  icases H with ⟨Hc, HcR⟩
  ihave Hc := (Entails.of_eq (credR_is c b t)) $$ Hc
  ihave HaS := (Entails.of_eq (arrS_skip c (wrp (b, t)) (fun j => wsp_ne_wrp j (b, t)))) $$ HaS
  iapply (Rounds.wp_wait_rest_token 𝒱₀ ER (Rd I) (c : Thread nD τ) none (κ := κ)
      (wpE_waitDma2_eq 𝒱₀ (c : Thread nD τ) none Set.univ) (Set.mem_univ _) t.val (O := O c (wrp (b, t))) (W := W) (R := rr t) (m := 0) (T := ∅)
      (by rw [Nat.zero_add, expect_recv]; exact hd)) $$ [Hc HO Ha]
  · isplitr; · iexact HI
    isplitl [Hc]; · rw [hd]; iexact Hc
    isplitl [HO]; · iexact HO
    isplitr
    · iapply (mayWait c (.dma (sR b (kr t))) t.val (wrp (b, t)) t.isLt (fun j hj => by
        rw [use_recv]; show t.val + 2 < j.2.val + 2
        obtain ⟨b', t'⟩ := j
        revert hj; unfold wrp spos
        have : b'.toNat ≤ 1 := by cases b' <;> decide
        dsimp only; omega))
      iapply (env_lev I); iexact HE
    iexact Ha
  iintro ⟨HO, Ha, #Hr, Hpay⟩
  ihave Hs := (Entails.of_eq (rest_recv I b c t)) $$ Hpay
  iapply Hk
  isplitr [Hs]
  · isplitl [HO]; · (iexists _; rw [← O_skip c (wrp (b, t)) fun j => spos_ne_wrp j (b, t)]; iexact HO)
    isplitl [HtS]; · iexact HtS
    isplitl [HtR]; · iexact HtR
    isplitl [HcR]; · iexact HcR
    isplitl [HaS]; · iexact HaS
    iapply HaR; isplitl; · iexact Ha
    iexact Hr
  unfold recvPay
  iexact Hs

end Cert.RingProof

end
-- ==== Proof.Moves.lean ====
/-
# The moves as the kernel makes them

Each memory operation of the kernel over the ring's books, its place and slots given by numbers.
-/
module

public import proofs.«01_k».proof.Proof.Steps

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Ins F)

/-! ## Sends and waits, the places given by numbers -/

/-- The facts about one step: the slots it uses, and the place of the move among all moves. -/
structure At (b : Bool) (t : Fin 12) (k k' : Fin 5) (pos n n' : ℕ) : Prop where
  ks : ks t = k
  kr : kr t = k'
  here : pos = n
  succ : n' = n + 1
instance (b : Bool) (t : Fin 12) (k k' : Fin 5) (pos n n' : ℕ) : Decidable (At b t k k' pos n n') :=
  decidable_of_iff (RingProof.ks t = k ∧ RingProof.kr t = k' ∧ pos = n ∧ n' = n + 1)
    ⟨fun ⟨a, b, c, d⟩ => ⟨a, b, c, d⟩, fun ⟨a, b, c, d⟩ => ⟨a, b, c, d⟩⟩

/-- The facts about the step after: its direction is the other one, and the slot it lands in. -/
structure Nx (b b' : Bool) (t u : Fin 12) (kn : Fin 5) : Prop where
  dir : (!b) = b'
  step : u.val = t.val + 1
  kr : kr u = kn
instance (b b' : Bool) (t u : Fin 12) (kn : Fin 5) : Decidable (Nx b b' t u kn) :=
  decidable_of_iff ((!b) = b' ∧ u.val = t.val + 1 ∧ RingProof.kr u = kn) ⟨fun ⟨a, b, c⟩ => ⟨a, b, c⟩, fun ⟨a, b, c⟩ => ⟨a, b, c⟩⟩

omit [FloatOps F] in
theorem ownNext_of {b b' : Bool} {t u : Fin 12} {kn : Fin 5} (h : Nx b b' t u kn) (c : Dev nD) :
    anySlot (F := F) b' c kn = ownNext b c t := by
  obtain ⟨rfl, hu, rfl⟩ := h
  unfold ownNext
  rw [dif_pos (by have := u.isLt; omega)]
  congr 2; exact Fin.ext hu
omit [FloatOps F] in
theorem grantNext_of {b b' : Bool} {t u : Fin 12} {kn : Fin 5} (h : Nx b b' t u kn) (c : Dev nD) :
    grantNext (F := F) b c t = grant b' c u := by
  obtain ⟨rfl, hu, rfl⟩ := h
  unfold grantNext
  rw [dif_pos (by have := u.isLt; omega)]
  congr 1; exact Fin.ext hu.symm
omit [FloatOps F] in
theorem ownNext_last (b : Bool) (c : Dev nD) : ownNext (F := F) b c 11 = iprop(emp) := dif_neg (by decide)

section Ring
variable {α : Type} {k1 : PUnit → Prog (TpuEff nD τ sig (Elt F) Λ₀ .tc) α}

/-- Sending a step that is not the last: the slot the next step will land in goes with it. -/
theorem wp_go (b : Bool) (t : Fin 12) (k k' : Fin 5) (n n' : ℕ) (h : At b t k k' (spos (b, t)) n n')
    (b' : Bool) (u : Fin 12) (kn : Fin 5) (hx : Nx b b' t u kn) (c dn : Dev nD) (hn : dn = fw b c)
    {src : Memref sig .tc .vmem S1024x1024 .bf16} (hs : src = cS b k)
    {dst : Memref sig (Dev.tc dn : Thread nD τ).2.kind .vmem S1024x1024 .bf16} (hd : dst = cS b k')
    {s1 s2 : DmaSem sig} (h1 : s1 = sS b k) (h2 : s2 = sR b k')
    {hsc : dst.view.ref.isScScratch = false} {hsrc : src.view.WordExact} {hdst : dst.view.WordExact}
    {hsem : DmaTarget.Typed .vmem (.dma s2) (.remote (Dev.tc dn : Thread nD τ) dst (.dma s1) hsc)}
    {α : Type} {Q : α → sProp 𝕄} {K : PUnit → Prog (TpuEff nD τ sig (Elt F) Λ₀ .tc) α} :
    Env I ⊢ iprop(Pro c n -∗ slot b c k (S I b c t) -∗ grant b c t -∗ anySlot b' c kn
      -∗ ((Pro c n' ∗ credS c (b, t)) -∗ wp frame (wpE (defs₀ (F := F)) 𝒱₀ (c : Thread nD τ) none) Set.univ (K ⟨⟩) Q)
      -∗ wp frame (wpE (defs₀ (F := F)) 𝒱₀ (c : Thread nD τ) none) Set.univ
          (.op (.enqueueDma src (.remote (Dev.tc dn : Thread nD τ) dst (.dma s1) hsc) (.dma s2) hsrc hdst hsem) K) Q) := by
  rw [ownNext_of hx c]
  obtain ⟨rfl, rfl, rfl, rfl⟩ := h
  exact wp_ring_send I b t c dn hn hs hd h1 h2

/-- Sending the last step. -/
theorem wp_go_last (b : Bool) (k k' : Fin 5) (n n' : ℕ) (h : At b 11 k k' (spos (b, 11)) n n') (c dn : Dev nD) (hn : dn = fw b c)
    {src : Memref sig .tc .vmem S1024x1024 .bf16} (hs : src = cS b k)
    {dst : Memref sig (Dev.tc dn : Thread nD τ).2.kind .vmem S1024x1024 .bf16} (hd : dst = cS b k')
    {s1 s2 : DmaSem sig} (h1 : s1 = sS b k) (h2 : s2 = sR b k')
    {hsc : dst.view.ref.isScScratch = false} {hsrc : src.view.WordExact} {hdst : dst.view.WordExact}
    {hsem : DmaTarget.Typed .vmem (.dma s2) (.remote (Dev.tc dn : Thread nD τ) dst (.dma s1) hsc)}
    {α : Type} {Q : α → sProp 𝕄} {K : PUnit → Prog (TpuEff nD τ sig (Elt F) Λ₀ .tc) α} :
    Env I ⊢ iprop(Pro c n -∗ slot b c k (S I b c 11) -∗ grant b c 11
      -∗ ((Pro c n' ∗ credS c (b, 11)) -∗ wp frame (wpE (defs₀ (F := F)) 𝒱₀ (c : Thread nD τ) none) Set.univ (K ⟨⟩) Q)
      -∗ wp frame (wpE (defs₀ (F := F)) 𝒱₀ (c : Thread nD τ) none) Set.univ
          (.op (.enqueueDma src (.remote (Dev.tc dn : Thread nD τ) dst (.dma s1) hsc) (.dma s2) hsrc hdst hsem) K) Q) := by
  obtain ⟨rfl, rfl, rfl, rfl⟩ := h
  iintro #HE HP Hs Hg Hk
  iapply (wp_ring_send I b 11 c dn hn hs hd h1 h2) $$ HE HP Hs Hg []
  · rw [ownNext_last]; iempintro
  iexact Hk

/-- One's own send has left: its slot is free. -/
theorem wp_left (b : Bool) (t : Fin 12) (k k' : Fin 5) (n n' : ℕ) (h : At b t k k' (wsp (b, t)) n n') (c : Dev nD)
    {s1 : DmaSem sig} (h1 : s1 = sS b k)
    {src dst : Memref sig .tc .vmem S1024x1024 .bf16} (hd : dst = cS b k)
    {hsrc hdst} {α : Type} {Q : α → sProp 𝕄} {K : PUnit → Prog (TpuEff nD τ sig (Elt F) Λ₀ .tc) α} :
    Env I ⊢ iprop(Pro c n -∗ credS c (b, t)
      -∗ ((Pro c n' ∗ anySlot b c k) -∗ wp frame (wpE (defs₀ (F := F)) 𝒱₀ (c : Thread nD τ) none) Set.univ (K ⟨⟩) Q)
      -∗ wp frame (wpE (defs₀ (F := F)) 𝒱₀ (c : Thread nD τ) none) Set.univ (.op (.waitDma2 s1 src dst hsrc hdst) K) Q) := by
  obtain ⟨rfl, rfl, rfl, rfl⟩ := h
  subst hd
  iintro #HE HP Hc Hk
  iapply (wp_ring_left I b t c h1 (credit_cS b _)) $$ HE HP Hc
  iintro ⟨HP, Hs⟩
  iapply Hk
  isplitl [HP]; · iexact HP
  iapply (slot_any b c _ _); iexact Hs

/-- The neighbour's send has arrived. -/
theorem wp_come (b : Bool) (t : Fin 12) (k k' : Fin 5) (n n' : ℕ) (h : At b t k k' (wrp (b, t)) n n')
    (b' : Bool) (u : Fin 12) (kn : Fin 5) (hx : Nx b b' t u kn) (c : Dev nD)
    {s1 : DmaSem sig} (h1 : s1 = sR b k')
    {src dst : Memref sig .tc .vmem S1024x1024 .bf16} (hd : dst = cS b k')
    {hsrc hdst} {α : Type} {Q : α → sProp 𝕄} {K : PUnit → Prog (TpuEff nD τ sig (Elt F) Λ₀ .tc) α} :
    Env I ⊢ iprop(Pro c n
      -∗ ((Pro c n' ∗ slot b c k' (S I b (bw b c) t) ∗ grant b' c u)
        -∗ wp frame (wpE (defs₀ (F := F)) 𝒱₀ (c : Thread nD τ) none) Set.univ (K ⟨⟩) Q)
      -∗ wp frame (wpE (defs₀ (F := F)) 𝒱₀ (c : Thread nD τ) none) Set.univ (.op (.waitDma2 s1 src dst hsrc hdst) K) Q) := by
  rw [← grantNext_of hx c]
  obtain ⟨rfl, rfl, rfl, rfl⟩ := h
  subst hd
  exact wp_ring_come I b t c h1 (credit_cS b _)

/-- The neighbour's last send has arrived. -/
theorem wp_come_last (b : Bool) (k k' : Fin 5) (n n' : ℕ) (h : At b 11 k k' (wrp (b, 11)) n n') (c : Dev nD)
    {s1 : DmaSem sig} (h1 : s1 = sR b k')
    {src dst : Memref sig .tc .vmem S1024x1024 .bf16} (hd : dst = cS b k')
    {hsrc hdst} {α : Type} {Q : α → sProp 𝕄} {K : PUnit → Prog (TpuEff nD τ sig (Elt F) Λ₀ .tc) α} :
    Env I ⊢ iprop(Pro c n
      -∗ ((Pro c n' ∗ slot b c k' (S I b (bw b c) 11))
        -∗ wp frame (wpE (defs₀ (F := F)) 𝒱₀ (c : Thread nD τ) none) Set.univ (K ⟨⟩) Q)
      -∗ wp frame (wpE (defs₀ (F := F)) 𝒱₀ (c : Thread nD τ) none) Set.univ (.op (.waitDma2 s1 src dst hsrc hdst) K) Q) := by
  obtain ⟨rfl, rfl, rfl, rfl⟩ := h
  subst hd
  iintro #HE HP Hk
  iapply (wp_ring_come I b 11 c h1 (credit_cS b _)) $$ HE HP
  iintro ⟨HP, Hs, -⟩
  iapply Hk
  isplitl [HP] <;> iassumption

end Ring

/-! ## Writing and reading slots -/

/-- Filling a free slot: what is read from it before is not used. -/
theorem wp_seed (b : Bool) (k : Fin 5) (w' : Vec F S1x1024x1024 .bf16) (c : Dev nD)
    {m : Memref sig .tc .vmem S5x1024x1024 .bf16} (hm : m = cM b)
    {off : Fin 3 → ℕ} {inb} (ho : off = ![k.val, 0, 0])
    {hl : m.view.LoadsAt (Rect.unit (s := S5x1024x1024) off S1x1024x1024.size inb).toLoadRect}
    {w : Vec F S1x1024x1024 .bf16} (hw : w = w')
    {hx : (m.access (Rect.unit (s := S5x1024x1024) off S1x1024x1024.size inb)).Stores Finset.univ} {hu}
    {α : Type} {Q : α → sProp 𝕄} {K : PUnit → Prog (TpuEff nD τ sig (Elt F) Λ₀ .tc) α} :
    anySlot b c k ⊢ iprop((slot b c k w' -∗ wp frame (wpE (defs₀ (F := F)) 𝒱₀ c none) Set.univ (K ⟨⟩) Q)
      -∗ wp frame (wpE (defs₀ (F := F)) 𝒱₀ c none) Set.univ
          (.op (.load m (Rect.unit (s := S5x1024x1024) off S1x1024x1024.size inb).toLoadRect hl) fun _ =>
            .op (.store m (Rect.unit (s := S5x1024x1024) off S1x1024x1024.size inb) w Finset.univ hx hu) K) Q) := by
  subst hw
  iintro H Hk
  ihave H := (any_slot b c k) $$ H
  icases H with ⟨%v, H⟩
  iapply (wp_load_slot b c k v hm ho) $$ H
  iintro H
  iapply (wp_store_slot b c k v _ hm ho) $$ H
  iexact Hk

/-- Adding to a slot's contents. -/
theorem wp_sum (b : Bool) (k : Fin 5) (v w' : Vec F S1x1024x1024 .bf16) (c : Dev nD)
    {m : Memref sig .tc .vmem S5x1024x1024 .bf16} (hm : m = cM b)
    {off : Fin 3 → ℕ} {inb} (ho : off = ![k.val, 0, 0])
    {hl hl' : m.view.LoadsAt (Rect.unit (s := S5x1024x1024) off S1x1024x1024.size inb).toLoadRect}
    {f : Vec F S1x1024x1024 .bf16 → Vec F S1x1024x1024 .bf16} (hw : f v = w')
    {hx : (m.access (Rect.unit (s := S5x1024x1024) off S1x1024x1024.size inb)).Stores Finset.univ} {hu}
    {α : Type} {Q : α → sProp 𝕄} {K : PUnit → Prog (TpuEff nD τ sig (Elt F) Λ₀ .tc) α} :
    slot b c k v ⊢ iprop((slot b c k w' -∗ wp frame (wpE (defs₀ (F := F)) 𝒱₀ c none) Set.univ (K ⟨⟩) Q)
      -∗ wp frame (wpE (defs₀ (F := F)) 𝒱₀ c none) Set.univ
          (.op (.load m (Rect.unit (s := S5x1024x1024) off S1x1024x1024.size inb).toLoadRect hl) fun l =>
            .op (.load m (Rect.unit (s := S5x1024x1024) off S1x1024x1024.size inb).toLoadRect hl') fun _ =>
            .op (.store m (Rect.unit (s := S5x1024x1024) off S1x1024x1024.size inb) (f l) Finset.univ hx hu) K) Q) := by
  subst hw
  iintro H Hk
  iapply (wp_load_slot b c k v hm ho) $$ H
  iintro H
  iapply (wp_seed b k (f v) c hm ho rfl) $$ [H]
  · iapply (slot_any b c k v); iexact H
  iexact Hk

/-- The same with the slot's contents read before. -/
theorem wp_put (b : Bool) (k : Fin 5) (v w' : Vec F S1x1024x1024 .bf16) (c : Dev nD)
    {m : Memref sig .tc .vmem S5x1024x1024 .bf16} (hm : m = cM b)
    {off : Fin 3 → ℕ} {inb} (ho : off = ![k.val, 0, 0])
    {hl : m.view.LoadsAt (Rect.unit (s := S5x1024x1024) off S1x1024x1024.size inb).toLoadRect}
    {w : Vec F S1x1024x1024 .bf16} (hw : w = w')
    {hx : (m.access (Rect.unit (s := S5x1024x1024) off S1x1024x1024.size inb)).Stores Finset.univ} {hu}
    {α : Type} {Q : α → sProp 𝕄} {K : PUnit → Prog (TpuEff nD τ sig (Elt F) Λ₀ .tc) α} :
    slot b c k v ⊢ iprop((slot b c k w' -∗ wp frame (wpE (defs₀ (F := F)) 𝒱₀ c none) Set.univ (K ⟨⟩) Q)
      -∗ wp frame (wpE (defs₀ (F := F)) 𝒱₀ c none) Set.univ
          (.op (.load m (Rect.unit (s := S5x1024x1024) off S1x1024x1024.size inb).toLoadRect hl) fun _ =>
            .op (.store m (Rect.unit (s := S5x1024x1024) off S1x1024x1024.size inb) w Finset.univ hx hu) K) Q) := by
  iintro H Hk
  iapply (wp_seed b k w' c hm ho hw) $$ [H]
  · iapply (slot_any b c k v); iexact H
  iexact Hk

/-- The two operands as the device holds them. -/
def Opn (c : Dev nD) : sProp 𝕄 := iprop(xPts c (I.x c) ∗ wPts c (I.w c))

/-- A block of rows, a block of columns. -/
theorem wp_x (j : Fin 4) (c : Dev nD)
    {m : Memref sig .tc .vmem S4096x1024 .i8} (hm : m = Memref.whole cc0_stg0_0)
    {off : Fin 2 → ℕ} {inb} (ho : off = ![1024 * j.val, 0])
    {hl : m.view.LoadsAt (Rect.unit (s := S4096x1024) off S1024x1024.size inb).toLoadRect}
    {α : Type} {Q : α → sProp 𝕄} {K : Vec F S1024x1024 .i8 → Prog (TpuEff nD τ sig (Elt F) Λ₀ .tc) α} :
    Opn I c ⊢ iprop((Opn I c -∗ wp frame (wpE (defs₀ (F := F)) 𝒱₀ c none) Set.univ (K (xch (I.x c) j)) Q)
      -∗ wp frame (wpE (defs₀ (F := F)) 𝒱₀ c none) Set.univ
          (.op (.load m (Rect.unit (s := S4096x1024) off S1024x1024.size inb).toLoadRect hl) K) Q) := by
  unfold Opn
  iintro ⟨Hx, Hw⟩ Hk
  iapply (wp_load_x c j (I.x c) hm ho) $$ Hx
  iintro Hx
  iapply Hk
  isplitl [Hx] <;> iassumption
theorem wp_w (n : Fin 8) (c : Dev nD)
    {m : Memref sig .tc .vmem S1024x8192 .i8} (hm : m = Memref.whole cc0_stg1_0)
    {off : Fin 2 → ℕ} {inb} (ho : off = ![0, 1024 * n.val])
    {hl : m.view.LoadsAt (Rect.unit (s := S1024x8192) off S1024x1024.size inb).toLoadRect}
    {α : Type} {Q : α → sProp 𝕄} {K : Vec F S1024x1024 .i8 → Prog (TpuEff nD τ sig (Elt F) Λ₀ .tc) α} :
    Opn I c ⊢ iprop((Opn I c -∗ wp frame (wpE (defs₀ (F := F)) 𝒱₀ c none) Set.univ (K (wch (I.w c) n)) Q)
      -∗ wp frame (wpE (defs₀ (F := F)) 𝒱₀ c none) Set.univ
          (.op (.load m (Rect.unit (s := S1024x8192) off S1024x1024.size inb).toLoadRect hl) K) Q) := by
  unfold Opn
  iintro ⟨Hx, Hw⟩ Hk
  iapply (wp_load_w c n (I.w c) hm ho) $$ Hw
  iintro Hw
  iapply Hk
  isplitl [Hx] <;> iassumption
/-- Both, one after the other. -/
theorem wp_xw (j : Fin 4) (n : Fin 8) (c : Dev nD)
    {m : Memref sig .tc .vmem S4096x1024 .i8} (hm : m = Memref.whole cc0_stg0_0)
    {off : Fin 2 → ℕ} {inb} (ho : off = ![1024 * j.val, 0])
    {hl : m.view.LoadsAt (Rect.unit (s := S4096x1024) off S1024x1024.size inb).toLoadRect}
    {m' : Memref sig .tc .vmem S1024x8192 .i8} (hm' : m' = Memref.whole cc0_stg1_0)
    {off' : Fin 2 → ℕ} {inb'} (ho' : off' = ![0, 1024 * n.val])
    {hl' : m'.view.LoadsAt (Rect.unit (s := S1024x8192) off' S1024x1024.size inb').toLoadRect}
    {α : Type} {Q : α → sProp 𝕄} {K : Vec F S1024x1024 .i8 → Vec F S1024x1024 .i8 → Prog (TpuEff nD τ sig (Elt F) Λ₀ .tc) α} :
    Opn I c ⊢ iprop((Opn I c -∗ wp frame (wpE (defs₀ (F := F)) 𝒱₀ c none) Set.univ (K (xch (I.x c) j) (wch (I.w c) n)) Q)
      -∗ wp frame (wpE (defs₀ (F := F)) 𝒱₀ c none) Set.univ
          (.op (.load m (Rect.unit (s := S4096x1024) off S1024x1024.size inb).toLoadRect hl) fun x =>
            .op (.load m' (Rect.unit (s := S1024x8192) off' S1024x1024.size inb').toLoadRect hl') fun w => K x w) Q) := by
  iintro H Hk
  iapply (wp_x I j c hm ho) $$ H
  iintro H
  iapply (wp_w I n c hm' ho') $$ H
  iexact Hk

theorem off1_eq (c : Dev nD) : k0_off1 c = ![1024 * (chunk false 0 c).val, 0] := by revert c; decide
theorem off2_eq (c : Dev nD) : k0_off2 c = ![1024 * (chunk true 0 c).val, 0] := by revert c; decide
theorem off3_0 (c : Dev nD) : k0_off3 c 0#32 = ![1024 * (chunk false 1 c).val, 0] := by revert c; decide
theorem off3_1 (c : Dev nD) : k0_off3 c 1#32 = ![1024 * (chunk false 2 c).val, 0] := by revert c; decide
theorem off4_0 (c : Dev nD) : k0_off4 c 0#32 = ![1024 * (chunk true 1 c).val, 0] := by revert c; decide
theorem off4_1 (c : Dev nD) : k0_off4 c 1#32 = ![1024 * (chunk true 2 c).val, 0] := by revert c; decide
theorem off5_eq (c : Dev nD) : k0_off5 c = ![1024 * c.val, 0] := by revert c; decide

/-- A finished program. -/
theorem wp_end (c : Dev nD) {α : Type} {Q : α → sProp 𝕄} (a : α) :
    Q a ⊢ wp frame (wpE (defs₀ (F := F)) 𝒱₀ (c : Thread nD τ) none) Set.univ (.ret a) Q := by
  rw [wp_ret]; exact fupd_intro

/-! ## The output -/

/-- Output block `n` not yet written, with the leave to copy into it. -/
def anyO (c : Dev nD) (j : Fin 2) : sProp 𝕄 := iprop(∃ v, oslot c j v)
def jOf (n : Fin 8) : Fin 2 := ⟨n.val % 2, Nat.mod_lt _ (by decide)⟩
def outTok (c : Dev nD) (n : Fin 8) : sProp 𝕄 :=
  iprop(dutyTok ER (outC (jOf n) c) (n.val / 2) false ∗ ∃ w, yblk c n w)
def outs (c : Dev nD) (n : ℕ) : sProp 𝕄 := fam (fun i : Fin 8 => i.val) n (outTok c)
/-- A copy from staging slot `j` under way. -/
def fly (c : Dev nD) (j : Fin 2) (r : ℕ) : sProp 𝕄 := iprop(at_ (outC j c) r ∗ cred (tallyAt (outC j c) 0 NO))

structure Ou (n : Fin 8) (j : Fin 2) (r : ℕ) : Prop where
  slot : n.val % 2 = j.val
  round : n.val / 2 = r
instance (n : Fin 8) (j : Fin 2) (r : ℕ) : Decidable (Ou n j r) :=
  decidable_of_iff (n.val % 2 = j.val ∧ n.val / 2 = r) ⟨fun ⟨a, b⟩ => ⟨a, b⟩, fun ⟨a, b⟩ => ⟨a, b⟩⟩

theorem nbOf_eq {n : Fin 8} {j : Fin 2} {r : ℕ} (h : Ou n j r) : nbOf j r = n := by
  obtain ⟨h1, h2⟩ := h
  apply Fin.ext; show (2 * r + j.val) % 8 = n.val
  have := n.isLt; omega
theorem jOf_eq {n : Fin 8} {j : Fin 2} {r : ℕ} (h : Ou n j r) : jOf n = j := Fin.ext h.slot
theorem Ou.lt {n : Fin 8} {j : Fin 2} {r : ℕ} (h : Ou n j r) : r < 4 := by
  have := h.round; have := n.isLt; omega

/-- The finished block from the last partial sum received. -/
theorem out_of (c : Dev nD) (n : Fin 8) (b : Bool) (p : Fin 4) (t : Fin 12) (hb : nbB n = b) (hp : nbP n = p) (ht : pOf t = p)
    (hs : t.val % 3 = 2) :
    k0_pay17 (scale I c) (xch (I.x c) c) (wch (I.w c) (col b p)) (S I b (bw b c) t) = outv I c n := by
  subst hb; subst hp
  unfold outv fin S
  rw [ht, hs]

/-- Filling a staging slot: what is read from it before is not used. -/
theorem wp_stage (j : Fin 2) (w' : Vec F S1x1024x1024 .f32) (c : Dev nD)
    {m : Memref sig .tc .vmem S2x1024x1024 .f32} (hm : m = oM)
    {off : Fin 3 → ℕ} {inb} (ho : off = ![j.val, 0, 0])
    {hl : m.view.LoadsAt (Rect.unit (s := S2x1024x1024) off S1x1024x1024.size inb).toLoadRect}
    {w : Vec F S1x1024x1024 .f32} (hw : w = w')
    {hx : (m.access (Rect.unit (s := S2x1024x1024) off S1x1024x1024.size inb)).Stores Finset.univ} {hu}
    {α : Type} {Q : α → sProp 𝕄} {K : PUnit → Prog (TpuEff nD τ sig (Elt F) Λ₀ .tc) α} :
    anyO c j ⊢ iprop((oslot c j w' -∗ wp frame (wpE (defs₀ (F := F)) 𝒱₀ c none) Set.univ (K ⟨⟩) Q)
      -∗ wp frame (wpE (defs₀ (F := F)) 𝒱₀ c none) Set.univ
          (.op (.load m (Rect.unit (s := S2x1024x1024) off S1x1024x1024.size inb).toLoadRect hl) fun _ =>
            .op (.store m (Rect.unit (s := S2x1024x1024) off S1x1024x1024.size inb) w Finset.univ hx hu) K) Q) := by
  subst hw
  unfold anyO
  iintro ⟨%v, H⟩ Hk
  iapply (wp_load_oslot c j v hm ho) $$ H
  iintro H
  iapply (wp_store_oslot c j v _ hm ho) $$ H
  iexact Hk

/-- The copy of a staging slot to its output block, over the cell it pays. -/
theorem wp_copy_raw (n : Fin 8) (j : Fin 2) (r : ℕ) (h : Ou n j r) (c : Dev nD) {κ : ℕ}
    {hsrc : (oS j).view.WordExact} {hdst : (yS n).view.WordExact}
    {hsem : DmaTarget.Typed (nD := nD) (p := (Proc.tc : Proc τ)) .vmem (.dma (sO j)) (.here (yS n))}
    {α : Type} {Q : α → sProp 𝕄} {K : PUnit → Prog (TpuEff nD τ sig (Elt F) Λ₀ .tc) α}
    (fs : Buf (Elt F) ((oS j : Memref sig .tc .vmem S1024x1024 .f32).view.loc (c : Thread nD τ)))
    (fd : Buf (Elt F) ((yS n : Memref sig .tc .hbm S1024x1024 .f32).view.loc (c : Thread nD τ)))
    (hfs : (oM).view.readAt (Elt F) (r2 j).toLoadRect fs = outv I c n) :
    iprop(cellInv ER (Rd I) κ (outC j c)
        ∗ (((oS j : Memref sig .tc .vmem S1024x1024 .f32).view.loc (c : Thread nD τ)) ↦[(oS j).view.set]{fullShare} fs)
        ∗ (((yS n : Memref sig .tc .hbm S1024x1024 .f32).view.loc (c : Thread nD τ)) ↦[(yS n).view.set]{fullShare} fd)
        ∗ dutyTok ER (outC j c) r false ∗ reached ER (outC j c) r)
      ⊢ iprop((cred (tallyAt (outC j c) 0 NO) -∗ wp frame (wpE (defs₀ (F := F)) 𝒱₀ (c : Thread nD τ) none) Set.univ (K ⟨⟩) Q)
        -∗ wp frame (wpE (defs₀ (F := F)) 𝒱₀ (c : Thread nD τ) none) Set.univ
          (.op (.enqueueDma (oS j) (.here (yS n)) (.dma (sO j)) hsrc hdst hsem) K) Q) :=
  Rounds.wp_copy_pointsTo 𝒱₀ ER (Rd I) (c : Thread nD τ) none (κ := κ) (sem := .dma (sO j)) (r := r) (d := false) (fs := fs) (fd := fd)
    (by rw [duties_out I c j r h.lt]; exact Finset.mem_singleton_self _) 0 NO (credit_yS n) (amount_out I c j r false)
    (by
      rw [pay_out, nbOf_eq h]; unfold outPay
      iintro ⟨Hy, Ho⟩
      isplitl [Ho]
      · rw [show (⟨n.val % 2, Nat.mod_lt _ (by decide)⟩ : Fin 2) = j from jOf_eq h]
        unfold oslot; iexists fs; isplitr; · (ipureintro; exact hfs)
        iexact Ho
      unfold yblk; iexists _
      isplitr
      · ipureintro; exact (read_copied j n fs fd).trans (by rw [hfs]; rfl)
      iexact Hy)

/-- Copying a finished block out. -/
theorem wp_emit (n : Fin 8) (j : Fin 2) (r n₀ n' : ℕ) (h : Ou n j r) (hn₀ : n₀ = n.val) (hn : n' = n.val + 1) (c : Dev nD)
    {src : Memref sig .tc .vmem S1024x1024 .f32} (hs : src = oS j) {dst : Memref sig .tc .hbm S1024x1024 .f32} (hd : dst = yS n)
    {s1 : DmaSem sig} (h1 : s1 = sO j)
    {hsrc : src.view.WordExact} {hdst : dst.view.WordExact} {hsem : DmaTarget.Typed (nD := nD) (p := (Proc.tc : Proc τ)) .vmem (.dma s1) (.here dst)}
    {α : Type} {Q : α → sProp 𝕄} {K : PUnit → Prog (TpuEff nD τ sig (Elt F) Λ₀ .tc) α} :
    Env I ⊢ iprop(outs c n₀ -∗ at_ (outC j c) r -∗ oslot c j (outv I c n)
      -∗ ((outs c n' ∗ fly c j r) -∗ wp frame (wpE (defs₀ (F := F)) 𝒱₀ (c : Thread nD τ) none) Set.univ (K ⟨⟩) Q)
      -∗ wp frame (wpE (defs₀ (F := F)) 𝒱₀ (c : Thread nD τ) none) Set.univ
          (.op (.enqueueDma src (.here dst) (.dma s1) hsrc hdst hsem) K) Q) := by
  subst hs; subst hd; subst h1; subst hn; subst hn₀
  unfold outs fly at_ oslot
  iintro #HE Ho ⟨Ha, #Hr⟩ ⟨%fs, %hfs, Hs⟩ Hk
  ihave H := (Entails.of_eq (fam_take (fun i : Fin 8 => i.val) (fun _ _ h => Fin.ext h) (outTok c) n)) $$ Ho
  icases H with ⟨H, Ho⟩
  unfold outTok yblk
  rw [jOf_eq h, h.round]
  icases H with ⟨Ht, %w, %fd, -, Hd⟩
  ihave H := (env_out I j c) $$ HE
  icases H with ⟨%κ, #HI⟩
  iapply (wp_copy_raw I n j r h c (κ := κ) fs fd hfs) $$ [Hs Hd Ht]
  · isplitr; · iexact HI
    isplitl [Hs]; · iexact Hs
    isplitl [Hd]; · iexact Hd
    isplitl [Ht]; · iexact Ht
    iexact Hr
  iintro Hc
  iapply Hk
  isplitl [Ho]; · iexact Ho
  isplitr [Hc]
  · isplitl [Ha]; · iexact Ha
    iexact Hr
  iexact Hc

/-- Waiting for a copy: its staging slot is free, its output block written. -/
theorem wp_done (n : Fin 8) (j : Fin 2) (r r' m : ℕ) (h : Ou n j r) (hr : r' = r + 1) (c : Dev nD)
    {s1 : DmaSem sig} (h1 : s1 = sO j)
    {src : Memref sig .tc .vmem S1024x1024 .f32} {dst : Memref sig .tc .hbm S1024x1024 .f32} (hd : dst = yS n)
    {hsrc hdst} {α : Type} {Q : α → sProp 𝕄} {K : PUnit → Prog (TpuEff nD τ sig (Elt F) Λ₀ .tc) α} :
    Env I ⊢ iprop(Pro c m -∗ fly c j r
      -∗ ((Pro c m ∗ at_ (outC j c) r' ∗ anyO c j ∗ yblk c n (outw I c n))
        -∗ wp frame (wpE (defs₀ (F := F)) 𝒱₀ (c : Thread nD τ) none) Set.univ (K ⟨⟩) Q)
      -∗ wp frame (wpE (defs₀ (F := F)) 𝒱₀ (c : Thread nD τ) none) Set.univ (.op (.waitDma2 s1 src dst hsrc hdst) K) Q) := by
  subst h1; subst hd; subst hr
  unfold Pro fly at_
  iintro #HE ⟨⟨%W, HO⟩, HB⟩ ⟨⟨Ha, -⟩, Hc⟩ Hk
  ihave H := (env_out I j c) $$ HE
  icases H with ⟨%κ, #HI⟩
  iapply (Rounds.wp_wait_rest_token 𝒱₀ ER (Rd I) (c : Thread nD τ) none (κ := κ)
      (wpE_waitDma2_eq 𝒱₀ (c : Thread nD τ) none Set.univ) (Set.mem_univ _) 0 (O := O c m) (W := W) (R := r) (m := 0) (T := ∅)
      (by rw [Nat.zero_add, expect_out I c j r h.lt]; exact credit_yS n)) $$ [Hc HO Ha]
  · isplitr; · iexact HI
    isplitl [Hc]; · rw [credit_yS]; iexact Hc
    isplitl [HO]; · iexact HO
    isplitr
    · iapply (mayWait c (.dma (sO j)) 0 m (by decide) (fun j' _ => by rw [use_out]; exact Nat.succ_pos _))
      iapply (env_lev I); iexact HE
    iexact Ha
  iintro ⟨HO, Ha, #Hr, Hpay⟩
  ihave H := (Entails.of_eq (rest_out I c j r h.lt)) $$ Hpay
  rw [nbOf_eq h]
  unfold outPay
  rw [show (⟨n.val % 2, Nat.mod_lt _ (by decide)⟩ : Fin 2) = j from jOf_eq h]
  icases H with ⟨Ho, Hy⟩
  iapply Hk
  isplitl [HO HB]
  · isplitl [HO]; · (iexists _; iexact HO)
    iexact HB
  isplitl [Ha]
  · isplitl; · iexact Ha
    iexact Hr
  isplitr [Hy]
  · unfold anyO; iexists _; iexact Ho
  iexact Hy

/-! ## The start -/

/-- Telling a neighbour that one's slot is ready for its first step. -/
theorem wp_ready (b : Bool) (c dn : Dev nD) (hn : dn = bw b c) (W : Waits sig ℕ) (O₁ : CellTallies nD τ sig ℕ)
    {s1 : Sem sig} (h1 : s1 = barS) {α : Type} {Q : α → sProp 𝕄} {K : PUnit → Prog (TpuEff nD τ sig (Elt F) Λ₀ .tc) α} :
    Env I ⊢ iprop(owes (c : Thread nD τ) (O₁ + tallyAt (barC (bw b c)) 0 1) W -∗ dutyTok ER (barC (bw b c)) 0 b -∗ reached ER (barC (bw b c)) 0
      -∗ anySlot b c 1 -∗ reached ER (recvC b 1 c) 0
      -∗ (owes (c : Thread nD τ) O₁ W -∗ wp frame (wpE (defs₀ (F := F)) 𝒱₀ (c : Thread nD τ) none) Set.univ (K ⟨⟩) Q)
      -∗ wp frame (wpE (defs₀ (F := F)) 𝒱₀ (c : Thread nD τ) none) Set.univ (.op (.semSignal (Dev.tc dn : Thread nD τ) s1 1) K) Q) := by
  subst hn; subst h1
  iintro #HE HO Ht #Hr Hs #Hv Hk
  ihave H := (env_bar I (bw b c)) $$ HE
  icases H with ⟨%κ, #HI⟩
  iapply (Rounds.wp_signal 𝒱₀ ER (Rd I) (c : Thread nD τ) none (dst := (bw b c : Thread nD τ)) (κ := κ)
      (d := b) (by rw [duties_bar]; exact Finset.mem_univ _) (amount_bar I (bw b c) 0 b) 0 O₁ rfl) $$ [HO Ht Hs]
  · isplitr; · iexact HI
    isplitl [HO]; · iexact HO
    isplitl [Ht]; · iexact Ht
    isplitl [Hs]
    · rw [pay_bar]; unfold grant; rw [fw_bw]
      isplitl [Hs]; · iexact Hs
      iexact Hv
    iexact Hr
  iexact Hk

/-- Both neighbours are ready. -/
theorem wp_begin (c : Dev nD) (W : Waits sig ℕ) {s1 : Sem sig} (h1 : s1 = barS)
    {α : Type} {Q : α → sProp 𝕄} {K : PUnit → Prog (TpuEff nD τ sig (Elt F) Λ₀ .tc) α} :
    Env I ⊢ iprop(owes (c : Thread nD τ) (O c 0) W -∗ Books c 0 -∗ at_ (barC c) 0 -∗ cred (tallyAt (barC c) 0 2)
      -∗ ((Pro c 0 ∗ at_ (barC c) 1 ∗ grant false c 0 ∗ grant true c 0)
        -∗ wp frame (wpE (defs₀ (F := F)) 𝒱₀ (c : Thread nD τ) none) Set.univ (K ⟨⟩) Q)
      -∗ wp frame (wpE (defs₀ (F := F)) 𝒱₀ (c : Thread nD τ) none) Set.univ (.op (.semWait s1 2) K) Q) := by
  subst h1
  unfold Pro at_
  iintro #HE HO HB ⟨Ha, -⟩ Hc Hk
  ihave H := (env_bar I c) $$ HE
  icases H with ⟨%κ, #HI⟩
  iapply (Rounds.wp_wait_rest_token 𝒱₀ ER (Rd I) (c : Thread nD τ) none (κ := κ)
      (wpE_semWait_eq 𝒱₀ (c : Thread nD τ) none Set.univ) (Set.mem_univ _) 0 (O := O c 0) (W := W) (R := 0) (m := 0) (T := ∅)
      (by rw [expect_bar])) $$ [Hc HO Ha]
  · isplitr; · iexact HI
    isplitl [Hc]; · iexact Hc
    isplitl [HO]; · iexact HO
    isplitr
    · iapply (mayWait c (.reg barS) 0 0 (by decide) (fun j' _ => by rw [use_bar]; show 1 < _; omega))
      iapply (env_lev I); iexact HE
    iexact Ha
  iintro ⟨HO, Ha, #Hr, Hpay⟩
  ihave H := (Entails.of_eq (rest_bar I c)) $$ Hpay
  iapply Hk
  isplitl [HO HB]
  · isplitl [HO]; · (iexists _; iexact HO)
    iexact HB
  isplitl [Ha]
  · isplitl; · iexact Ha
    iexact Hr
  iexact H

/-- The scales, as the device holds them. -/
def Scl (c : Dev nD) : sProp 𝕄 :=
  iprop(((((c : Dev nD) : Thread nD τ).loc cc0_stg2_0) ↦{fullShare} (I.a c : (cc0_stg2_0 : Ref sig .tc).ty.Contents (Elt F)))
    ∗ ((((c : Dev nD) : Thread nD τ).loc cc0_stg3_0) ↦{fullShare} (I.b c : (cc0_stg3_0 : Ref sig .tc).ty.Contents (Elt F))))

/-- Both scales are read and multiplied. -/
theorem wp_scales (c : Dev nD)
    {m : Memref sig .tc .smem S1 .f32} (hm : m = Memref.whole cc0_stg2_0) {m' : Memref sig .tc .smem S1 .f32} (hm' : m' = Memref.whole cc0_stg3_0)
    {inb inb'} {hl : m.view.LoadsAt (Rect.unit (s := S1) ![0] S1.size inb).toLoadRect}
    {hl' : m'.view.LoadsAt (Rect.unit (s := S1) ![0] S1.size inb').toLoadRect}
    {α : Type} {Q : α → sProp 𝕄} {K : Vec F S1 .f32 → Vec F S1 .f32 → Prog (TpuEff nD τ sig (Elt F) Λ₀ .tc) α} :
    Scl I c ⊢ iprop((Scl I c -∗ wp frame (wpE (defs₀ (F := F)) 𝒱₀ c none) Set.univ (K (I.a c) (I.b c)) Q)
      -∗ wp frame (wpE (defs₀ (F := F)) 𝒱₀ c none) Set.univ
          (.op (.load m (Rect.unit (s := S1) ![0] S1.size inb).toLoadRect hl) fun x =>
            .op (.load m' (Rect.unit (s := S1) ![0] S1.size inb').toLoadRect hl') fun y => K x y) Q) := by
  subst hm; subst hm'
  unfold Scl
  iintro ⟨Ha, Hb⟩ Hk
  have h0 : (![0] : Fin 1 → ℕ) = fun _ => 0 := funext fun a => by fin_cases a; rfl
  iapply (wp_load_rect 𝒱₀ (c : Thread nD τ) none Set.univ (m := Memref.whole cc0_stg2_0)
    (r := Rect.unit (s := S1) ![0] S1.size inb) (f := I.a c) (Finset.subset_univ _)) $$ Ha
  iintro Ha
  iapply (wp_load_rect 𝒱₀ (c : Thread nD τ) none Set.univ (m := Memref.whole cc0_stg3_0)
    (r := Rect.unit (s := S1) ![0] S1.size inb') (f := I.b c) (Finset.subset_univ _)) $$ Hb
  iintro Hb
  have ha : ((Memref.whole cc0_stg2_0).access (Rect.unit (s := S1) ![0] S1.size inb) : View sig .tc _ _ _).read (Elt F) (I.a c) = I.a c :=
    Memref.read_access_unit_zero (Elt F) cc0_stg2_0 h0 inb (I.a c)
  have hb : ((Memref.whole cc0_stg3_0).access (Rect.unit (s := S1) ![0] S1.size inb') : View sig .tc _ _ _).read (Elt F) (I.b c) = I.b c :=
    Memref.read_access_unit_zero (Elt F) cc0_stg3_0 h0 inb' (I.b c)
  rw [ha, hb]
  iapply Hk
  isplitl [Ha] <;> iassumption

end Cert.RingProof

end
-- ==== Proof.Body1.lean ====
/-
# The kernel's parts
-/
module

public import proofs.«01_k».proof.Proof.Moves

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- A part of the kernel at the buffers and semaphores it is called with. -/
abbrev atArgs {β : Type _}
    (f : (a0 : Memref sig .tc .vmem S4096x1024 .i8) → a0.IsWhole → (a1 : Memref sig .tc .vmem S1024x8192 .i8) → a1.IsWhole →
      (a2 : Memref sig .tc .smem S1 .f32) → a2.IsWhole → (a3 : Memref sig .tc .smem S1 .f32) → a3.IsWhole →
      (a4 : Memref sig .tc .hbm S1024x8192 .f32) → a4.IsWhole → (a5 : Memref sig .tc .vmem S5x1024x1024 .bf16) → a5.IsWhole →
      (a6 : Memref sig .tc .vmem S5x1024x1024 .bf16) → a6.IsWhole → (a7 : Memref sig .tc .vmem S2x1024x1024 .f32) → a7.IsWhole →
      DmaSems sig S5 → DmaSems sig S5 → DmaSems sig S5 → DmaSems sig S5 → DmaSems sig S2 → β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole main_v1) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 cc0_scratch6 cc0_scratch7

/-- The devices sends go to. -/
theorem dev_f (c : Dev nD) {v : ℕ} {h : v < nD} (e : v = (c.val + 1) % 4) : (⟨v, h⟩ : Dev nD) = fw false c := Fin.ext e
theorem dev_b (c : Dev nD) {v : ℕ} {h : v < nD} (e : v = (c.val + 3) % 4) : (⟨v, h⟩ : Dev nD) = fw true c := Fin.ext e

/-- Reading a free slot: the value is not used. -/
theorem wp_peek (b : Bool) (k : Fin 5) (c : Dev nD)
    {m : Memref sig .tc .vmem S5x1024x1024 .bf16} (hm : m = cM b)
    {off : Fin 3 → ℕ} {inb} (ho : off = ![k.val, 0, 0])
    {hl : m.view.LoadsAt (Rect.unit (s := S5x1024x1024) off S1x1024x1024.size inb).toLoadRect}
    {α : Type} {Q : α → sProp 𝕄} {K : Vec F S1x1024x1024 .bf16 → Prog (TpuEff nD τ sig (Elt F) Λ₀ .tc) α} :
    anySlot b c k ⊢ iprop((∀ v, anySlot b c k -∗ wp frame (wpE (defs₀ (F := F)) 𝒱₀ c none) Set.univ (K v) Q)
      -∗ wp frame (wpE (defs₀ (F := F)) 𝒱₀ c none) Set.univ
          (.op (.load m (Rect.unit (s := S5x1024x1024) off S1x1024x1024.size inb).toLoadRect hl) K) Q) := by
  iintro H Hk
  ihave H := (any_slot b c k) $$ H
  icases H with ⟨%v, H⟩
  iapply (wp_load_slot b c k v hm ho) $$ H
  iintro H
  iapply Hk
  iapply (slot_any b c k v); iexact H

/-- Writing a free slot. -/
theorem wp_fill (b : Bool) (k : Fin 5) (w' : Vec F S1x1024x1024 .bf16) (c : Dev nD)
    {m : Memref sig .tc .vmem S5x1024x1024 .bf16} (hm : m = cM b)
    {off : Fin 3 → ℕ} {inb} (ho : off = ![k.val, 0, 0])
    {w : Vec F S1x1024x1024 .bf16} (hw : w = w')
    {hx : (m.access (Rect.unit (s := S5x1024x1024) off S1x1024x1024.size inb)).Stores Finset.univ} {hu}
    {α : Type} {Q : α → sProp 𝕄} {K : PUnit → Prog (TpuEff nD τ sig (Elt F) Λ₀ .tc) α} :
    anySlot b c k ⊢ iprop((slot b c k w' -∗ wp frame (wpE (defs₀ (F := F)) 𝒱₀ c none) Set.univ (K ⟨⟩) Q)
      -∗ wp frame (wpE (defs₀ (F := F)) 𝒱₀ c none) Set.univ
          (.op (.store m (Rect.unit (s := S5x1024x1024) off S1x1024x1024.size inb) w Finset.univ hx hu) K) Q) := by
  subst hw
  iintro H Hk
  ihave H := (any_slot b c k) $$ H
  icases H with ⟨%v, H⟩
  iapply (wp_store_slot b c k v _ hm ho) $$ H
  iexact Hk

variable (I : Ins F)

/-- What a device starts the kernel with, besides its operands and its slots. -/
def Init (c : Dev nD) : sProp 𝕄 :=
  iprop((∃ W, owes (c : Thread nD τ) ((O c 0 + tallyAt (barC (bw true c)) 0 1) + tallyAt (barC (bw false c)) 0 1) W)
    ∗ dutyTok ER (barC (bw false c)) 0 false ∗ dutyTok ER (barC (bw true c)) 0 true
    ∗ reached ER (barC (bw false c)) 0 ∗ reached ER (barC (bw true c)) 0
    ∗ reached ER (recvC false 1 c) 0 ∗ reached ER (recvC true 1 c) 0
    ∗ cred (tallyAt (barC c) 0 2) ∗ at_ (barC c) 0 ∗ Books c 0)

/-- The handshake with both neighbours, the scales, and the first partial sum. -/
theorem part1 (c : Dev nD) (Kt) :
    Env I ⊢ iprop(Init c -∗ anySlot false c 1 -∗ anySlot true c 1 -∗ Scl I c -∗ Opn I c -∗ anySlot false c 0
      -∗ (∀ s v2 v5 v7 x, ⌜s = scale I c⌝ -∗ Pro c 0 -∗ at_ (barC c) 1 -∗ grant false c 0 -∗ grant true c 0 -∗ Scl I c -∗ Opn I c
          -∗ slot false c 0 (S I false c 0) -∗ Kt ⟨c, v2, v5, v7, s, x⟩)
      -∗ wp frame (wpE (defs₀ (F := F)) 𝒱₀ (c : Thread nD τ) none) Set.univ (atArgs k0_part1) Kt) := by
  unfold atArgs Init
  simp only [k0_part1_eq_skeleton]; unfold k0_part1_skel
  simp only [semSignalWord, semWaitWord, smemLoad, smemLoadElt, Prog.lift, Prog.bind_op, Prog.bind_ret, Prog.pure_eq_ret, wp_deviceId]
  iintro #HE ⟨⟨%W, HO⟩, Ht1, Ht2, #Hr1, #Hr2, #Hv1, #Hv2, Hc, Ha, HB⟩ HA1 HB1 Hs Hx HA0 Hk
  iapply (wp_ready I false c _ (dev_b c (k0_dev1_eq c)) W _ rfl) $$ HE HO Ht1 Hr1 HA1 Hv1
  iintro HO
  iapply (wp_ready I true c _ (dev_f c (k0_dev2_eq c)) W _ rfl) $$ HE HO Ht2 Hr2 HB1 Hv2
  iintro HO
  iapply (wp_begin I c W rfl) $$ HE HO HB Ha Hc
  iintro ⟨HP, Ha, HgA, HgB⟩

  iapply (wp_scales I c rfl rfl) $$ Hs
  iintro Hs
  iapply (wp_xw I (chunk false 0 c) (col false 0) c rfl (off1_eq c) rfl rfl) $$ Hx
  iintro Hx
  iapply (wp_seed false 0 (S I false c 0) c rfl rfl rfl) $$ HA0
  iintro HA0
  iapply (wp_end c _)
  iapply Hk $$ [] HP Ha HgA HgB Hs Hx HA0
  ipureintro; exact rfl

/-- The first reduction's first partial sums; the first send. -/
theorem part2 (c : Dev nD) (v5 v7 x) (Kt) :
    Env I ⊢ iprop(Opn I c -∗ anySlot true c 0 -∗ slot false c 0 (S I false c 0) -∗ grant false c 0 -∗ Pro c 0 -∗ anySlot true c 2
      -∗ (Opn I c -∗ slot true c 0 (S I true c 0) -∗ Pro c 1 -∗ credS c (false, 0) -∗ Kt ⟨⟩)
      -∗ wp frame (wpE (defs₀ (F := F)) 𝒱₀ (c : Thread nD τ) none) Set.univ (atArgs k0_part2 c v5 v7 x) Kt) := by
  unfold atArgs
  simp only [k0_part2_eq_skeleton]; unfold k0_part2_skel
  simp only [Prog.lift, Prog.bind_op, Prog.bind_ret, Prog.pure_eq_ret]
  iintro #HE Hx HB0 HA0 HgA HP HB2 Hk
  iapply (wp_xw I (chunk true 0 c) (col true 0) c rfl (off2_eq c) rfl rfl) $$ Hx
  iintro Hx
  iapply (wp_seed true 0 (S I true c 0) c rfl rfl rfl) $$ HB0
  iintro HB0
  iapply (wp_go I false 0 0 1 0 1 (by decide) true 1 2 (by decide) c _ (dev_f c (k0_dev3_eq c)) rfl rfl rfl rfl) $$ HE HP HA0 HgA HB2
  iintro ⟨HP, HcA⟩
  iapply (wp_end c _)
  iapply Hk $$ Hx HB0 HP HcA

end Cert.RingProof

end
-- ==== Proof.Body2.lean ====
/-
# The kernel's parts: the first reduction, and into the second
-/
module

public import proofs.«01_k».proof.Proof.Body1

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Ins F)

/-- The other first send; this device's own products of the second stage. -/
theorem part3 (c : Dev nD) (v2) (Kt) :
    Env I ⊢ iprop(slot true c 0 (S I true c 0) -∗ grant true c 0 -∗ Pro c 1 -∗ anySlot false c 2 -∗ Opn I c
      -∗ (∀ u v, ⌜u = part I false 0 1 c ∧ v = part I true 0 1 c⌝ -∗ Pro c 2 -∗ credS c (true, 0) -∗ Opn I c -∗ Kt ⟨u, v⟩)
      -∗ wp frame (wpE (defs₀ (F := F)) 𝒱₀ (c : Thread nD τ) none) Set.univ (atArgs k0_part3 c v2) Kt) := by
  unfold atArgs
  simp only [k0_part3_eq_skeleton]; unfold k0_part3_skel
  simp only [Prog.lift, Prog.bind_op, Prog.bind_ret, Prog.pure_eq_ret]
  iintro #HE HB0 HgB HP HA2 Hx Hk
  iapply (wp_go I true 0 0 1 1 2 (by decide) false 1 2 (by decide) c _ (dev_b c (k0_dev4_eq c)) rfl rfl rfl rfl) $$ HE HP HB0 HgB HA2
  iintro ⟨HP, HcB⟩
  iapply (wp_xw I (chunk false 1 c) (col false 0) c rfl (off3_0 c) rfl rfl) $$ Hx
  iintro Hx
  iapply (wp_xw I (chunk true 1 c) (col true 0) c rfl (off4_0 c) rfl rfl) $$ Hx
  iintro Hx
  iapply (wp_end c _)
  iapply Hk $$ [] HP HcB Hx
  ipureintro; exact ⟨rfl, rfl⟩

/-- The four waits of the first step; the first arrival is read. -/
theorem part4 (c : Dev nD) (v5 v7) (Kt) :
    Env I ⊢ iprop(Pro c 2 -∗ credS c (false, 0) -∗ credS c (true, 0)
      -∗ (∀ u, ⌜u = k0_pay6 (S I false (bw false c) 0)⌝ -∗ Pro c 6 -∗ anySlot false c 0 -∗ slot false c 1 (S I false (bw false c) 0) -∗ grant true c 1 -∗ anySlot true c 0 -∗ slot true c 1 (S I true (bw true c) 0) -∗ grant false c 1 -∗ Kt u)
      -∗ wp frame (wpE (defs₀ (F := F)) 𝒱₀ (c : Thread nD τ) none) Set.univ (atArgs k0_part4 v5 v7) Kt) := by
  unfold atArgs
  simp only [k0_part4_eq_skeleton]; unfold k0_part4_skel
  simp only [Prog.lift, Prog.bind_op, Prog.bind_ret, Prog.pure_eq_ret]
  iintro #HE HP HcA HcB Hk
  iapply (wp_left I false 0 0 1 2 3 (by decide) c rfl rfl) $$ HE HP HcA
  iintro ⟨HP, HA0⟩
  iapply (wp_come I false 0 0 1 3 4 (by decide) true 1 2 (by decide) c rfl rfl) $$ HE HP
  iintro ⟨HP, HA1, HgB⟩
  iapply (wp_left I true 0 0 1 4 5 (by decide) c rfl rfl) $$ HE HP HcB
  iintro ⟨HP, HB0⟩
  iapply (wp_come I true 0 0 1 5 6 (by decide) false 1 2 (by decide) c rfl rfl) $$ HE HP
  iintro ⟨HP, HB1, HgA⟩
  iapply (wp_load_slot false c 1 (S I false (bw false c) 0) rfl rfl) $$ HA1
  iintro HA1
  iapply (wp_end c _)
  iapply Hk $$ [] HP HA0 HA1 HgB HB0 HB1 HgA
  ipureintro; exact rfl

/-- Adding up; the next send. -/
theorem part5 (c : Dev nD) (v5 v7) (v77) (h77 : v77 = part I false 0 1 c) (v86) (h86 : v86 = part I true 0 1 c) (v116) (h116 : v116 = k0_pay6 (S I false (bw false c) 0)) (Kt) :
    Env I ⊢ iprop(slot false c 1 (S I false (bw false c) 0) -∗ slot true c 1 (S I true (bw true c) 0) -∗ grant false c 1 -∗ Pro c 6 -∗ anySlot true c 3
      -∗ (slot true c 1 (S I true c 1) -∗ Pro c 7 -∗ credS c (false, 1) -∗ Kt ⟨⟩)
      -∗ wp frame (wpE (defs₀ (F := F)) 𝒱₀ (c : Thread nD τ) none) Set.univ (atArgs k0_part5 c v5 v7 v77 v86 v116) Kt) := by
  subst h77
  subst h86
  subst h116
  unfold atArgs
  simp only [k0_part5_eq_skeleton]; unfold k0_part5_skel
  simp only [Prog.lift, Prog.bind_op, Prog.bind_ret, Prog.pure_eq_ret]
  iintro #HE HA1 HB1 HgA HP HB3 Hk
  iapply (wp_put false 1 (S I false (bw false c) 0) (S I false c 1) c rfl rfl rfl) $$ HA1
  iintro HA1
  iapply (wp_sum true 1 (S I true (bw true c) 0) (S I true c 1) c rfl rfl rfl) $$ HB1
  iintro HB1
  iapply (wp_go I false 1 1 2 6 7 (by decide) true 2 3 (by decide) c _ (dev_f c (k0_dev5_eq c)) rfl rfl rfl rfl) $$ HE HP HA1 HgA HB3
  iintro ⟨HP, HcA⟩
  iapply (wp_end c _)
  iapply Hk $$ HB1 HP HcA

/-- The other send; the products of the third stage. -/
theorem part6 (c : Dev nD) (v2) (Kt) :
    Env I ⊢ iprop(slot true c 1 (S I true c 1) -∗ grant true c 1 -∗ Pro c 7 -∗ anySlot false c 3 -∗ Opn I c
      -∗ (∀ u v, ⌜u = part I false 0 2 c ∧ v = part I true 0 2 c⌝ -∗ Pro c 8 -∗ credS c (true, 1) -∗ Opn I c -∗ Kt ⟨u, v⟩)
      -∗ wp frame (wpE (defs₀ (F := F)) 𝒱₀ (c : Thread nD τ) none) Set.univ (atArgs k0_part6 c v2) Kt) := by
  unfold atArgs
  simp only [k0_part6_eq_skeleton]; unfold k0_part6_skel
  simp only [Prog.lift, Prog.bind_op, Prog.bind_ret, Prog.pure_eq_ret]
  iintro #HE HB1 HgB HP HA3 Hx Hk
  iapply (wp_go I true 1 1 2 7 8 (by decide) false 2 3 (by decide) c _ (dev_b c (k0_dev6_eq c)) rfl rfl rfl rfl) $$ HE HP HB1 HgB HA3
  iintro ⟨HP, HcB⟩
  iapply (wp_xw I (chunk false 2 c) (col false 0) c rfl (off3_1 c) rfl rfl) $$ Hx
  iintro Hx
  iapply (wp_xw I (chunk true 2 c) (col true 0) c rfl (off4_1 c) rfl rfl) $$ Hx
  iintro Hx
  iapply (wp_end c _)
  iapply Hk $$ [] HP HcB Hx
  ipureintro; exact ⟨rfl, rfl⟩

/-- The four waits of the second step. -/
theorem part7 (c : Dev nD) (v5 v7) (Kt) :
    Env I ⊢ iprop(Pro c 8 -∗ credS c (false, 1) -∗ credS c (true, 1)
      -∗ (Pro c 12 -∗ anySlot false c 1 -∗ slot false c 2 (S I false (bw false c) 1) -∗ grant true c 2 -∗ anySlot true c 1 -∗ slot true c 2 (S I true (bw true c) 1) -∗ grant false c 2 -∗ Kt ⟨⟩)
      -∗ wp frame (wpE (defs₀ (F := F)) 𝒱₀ (c : Thread nD τ) none) Set.univ (atArgs k0_part7 v5 v7) Kt) := by
  unfold atArgs
  simp only [k0_part7_eq_skeleton]; unfold k0_part7_skel
  simp only [Prog.lift, Prog.bind_op, Prog.bind_ret, Prog.pure_eq_ret]
  iintro #HE HP HcA HcB Hk
  iapply (wp_left I false 1 1 2 8 9 (by decide) c rfl rfl) $$ HE HP HcA
  iintro ⟨HP, HA1⟩
  iapply (wp_come I false 1 1 2 9 10 (by decide) true 2 3 (by decide) c rfl rfl) $$ HE HP
  iintro ⟨HP, HA2, HgB⟩
  iapply (wp_left I true 1 1 2 10 11 (by decide) c rfl rfl) $$ HE HP HcB
  iintro ⟨HP, HB1⟩
  iapply (wp_come I true 1 1 2 11 12 (by decide) false 2 3 (by decide) c rfl rfl) $$ HE HP
  iintro ⟨HP, HB2, HgA⟩
  iapply (wp_end c _)
  iapply Hk $$ HP HA1 HA2 HgB HB1 HB2 HgA

/-- Adding up; the next send. -/
theorem part8 (c : Dev nD) (v5 v7) (v166) (h166 : v166 = part I false 0 2 c) (v175) (h175 : v175 = part I true 0 2 c) (Kt) :
    Env I ⊢ iprop(slot false c 2 (S I false (bw false c) 1) -∗ slot true c 2 (S I true (bw true c) 1) -∗ grant false c 2 -∗ Pro c 12 -∗ anySlot true c 0
      -∗ (slot true c 2 (S I true c 2) -∗ Pro c 13 -∗ credS c (false, 2) -∗ Kt ⟨⟩)
      -∗ wp frame (wpE (defs₀ (F := F)) 𝒱₀ (c : Thread nD τ) none) Set.univ (atArgs k0_part8 c v5 v7 v166 v175) Kt) := by
  subst h166
  subst h175
  unfold atArgs
  simp only [k0_part8_eq_skeleton]; unfold k0_part8_skel
  simp only [Prog.lift, Prog.bind_op, Prog.bind_ret, Prog.pure_eq_ret]
  iintro #HE HA2 HB2 HgA HP HB0 Hk
  iapply (wp_sum false 2 (S I false (bw false c) 1) (S I false c 2) c rfl rfl rfl) $$ HA2
  iintro HA2
  iapply (wp_sum true 2 (S I true (bw true c) 1) (S I true c 2) c rfl rfl rfl) $$ HB2
  iintro HB2
  iapply (wp_go I false 2 2 3 12 13 (by decide) true 3 0 (by decide) c _ (dev_f c (k0_dev7_eq c)) rfl rfl rfl rfl) $$ HE HP HA2 HgA HB0
  iintro ⟨HP, HcA⟩
  iapply (wp_end c _)
  iapply Hk $$ HB2 HP HcA

/-- The other send; the second reduction's first partial sums. -/
theorem part9 (c : Dev nD) (v5 v7) (Kt) :
    Env I ⊢ iprop(slot true c 2 (S I true c 2) -∗ grant true c 2 -∗ Pro c 13 -∗ anySlot false c 0 -∗ Opn I c -∗ anySlot false c 4 -∗ anySlot true c 4
      -∗ (Pro c 14 -∗ credS c (true, 2) -∗ Opn I c -∗ slot false c 4 (S I false c 3) -∗ slot true c 4 (S I true c 3) -∗ Kt ⟨⟩)
      -∗ wp frame (wpE (defs₀ (F := F)) 𝒱₀ (c : Thread nD τ) none) Set.univ (atArgs k0_part9 c v5 v7) Kt) := by
  unfold atArgs
  simp only [k0_part9_eq_skeleton]; unfold k0_part9_skel
  simp only [Prog.lift, Prog.bind_op, Prog.bind_ret, Prog.pure_eq_ret]
  iintro #HE HB2 HgB HP HA0 Hx HA4 HB4 Hk
  iapply (wp_go I true 2 2 3 13 14 (by decide) false 3 0 (by decide) c _ (dev_b c (k0_dev8_eq c)) rfl rfl rfl rfl) $$ HE HP HB2 HgB HA0
  iintro ⟨HP, HcB⟩
  iapply (wp_xw I (chunk false 0 c) (col false 1) c rfl (off1_eq c) rfl rfl) $$ Hx
  iintro Hx
  iapply (wp_seed false 4 (S I false c 3) c rfl rfl rfl) $$ HA4
  iintro HA4
  iapply (wp_xw I (chunk true 0 c) (col true 1) c rfl (off2_eq c) rfl rfl) $$ Hx
  iintro Hx
  iapply (wp_seed true 4 (S I true c 3) c rfl rfl rfl) $$ HB4
  iintro HB4
  iapply (wp_end c _)
  iapply Hk $$ HP HcB Hx HA4 HB4

/-- Three waits of the third step. -/
theorem part10 (c : Dev nD) (v5 v7) (Kt) :
    Env I ⊢ iprop(Pro c 14 -∗ credS c (false, 2) -∗ credS c (true, 2)
      -∗ (Pro c 17 -∗ anySlot false c 2 -∗ slot false c 3 (S I false (bw false c) 2) -∗ grant true c 3 -∗ anySlot true c 2 -∗ Kt ⟨⟩)
      -∗ wp frame (wpE (defs₀ (F := F)) 𝒱₀ (c : Thread nD τ) none) Set.univ (atArgs k0_part10 v5 v7) Kt) := by
  unfold atArgs
  simp only [k0_part10_eq_skeleton]; unfold k0_part10_skel
  simp only [Prog.lift, Prog.bind_op, Prog.bind_ret, Prog.pure_eq_ret]
  iintro #HE HP HcA HcB Hk
  iapply (wp_left I false 2 2 3 14 15 (by decide) c rfl rfl) $$ HE HP HcA
  iintro ⟨HP, HA2⟩
  iapply (wp_come I false 2 2 3 15 16 (by decide) true 3 0 (by decide) c rfl rfl) $$ HE HP
  iintro ⟨HP, HA3, HgB⟩
  iapply (wp_left I true 2 2 3 16 17 (by decide) c rfl rfl) $$ HE HP HcB
  iintro ⟨HP, HB2⟩
  iapply (wp_end c _)
  iapply Hk $$ HP HA2 HA3 HgB HB2

/-- The last wait of the third step; both sends of the fourth. -/
theorem part11 (c : Dev nD) (v2 v5 v7) (Kt) :
    Env I ⊢ iprop(Pro c 17 -∗ slot false c 4 (S I false c 3) -∗ anySlot true c 1 -∗ slot true c 4 (S I true c 3) -∗ grant true c 3 -∗ anySlot false c 1
      -∗ (∀ u v x, Pro c 20 -∗ slot true c 3 (S I true (bw true c) 2) -∗ credS c (false, 3) -∗ credS c (true, 3) -∗ Kt ⟨u, v, x⟩)
      -∗ wp frame (wpE (defs₀ (F := F)) 𝒱₀ (c : Thread nD τ) none) Set.univ (atArgs k0_part11 c v2 v5 v7) Kt) := by
  unfold atArgs
  simp only [k0_part11_eq_skeleton]; unfold k0_part11_skel
  simp only [Prog.lift, Prog.bind_op, Prog.bind_ret, Prog.pure_eq_ret]
  iintro #HE HP HA4 HB1 HB4 HgB HA1 Hk
  iapply (wp_come I true 2 2 3 17 18 (by decide) false 3 0 (by decide) c rfl rfl) $$ HE HP
  iintro ⟨HP, HB3, HgA⟩
  iapply (wp_go I false 3 4 0 18 19 (by decide) true 4 1 (by decide) c _ (dev_f c (k0_dev9_eq c)) rfl rfl rfl rfl) $$ HE HP HA4 HgA HB1
  iintro ⟨HP, HcA⟩
  iapply (wp_go I true 3 4 0 19 20 (by decide) false 4 1 (by decide) c _ (dev_b c (k0_dev10_eq c)) rfl rfl rfl rfl) $$ HE HP HB4 HgB HA1
  iintro ⟨HP, HcB⟩
  iapply (wp_end c _)
  iapply Hk $$ HP HB3 HcA HcB

/-- Products of the next stage; the first finished block is staged. -/
theorem part12 (c : Dev nD) (v2) (s) (hs : s = scale I c) (x y z) (Kt) :
    Env I ⊢ iprop(Opn I c -∗ slot false c 3 (S I false (bw false c) 2) -∗ anyO c 0
      -∗ (∀ u v, ⌜u = part I false 1 1 c ∧ v = part I true 1 1 c⌝ -∗ Opn I c -∗ anySlot false c 3 -∗ oslot c 0 (outv I c 0) -∗ Kt ⟨u, v⟩)
      -∗ wp frame (wpE (defs₀ (F := F)) 𝒱₀ (c : Thread nD τ) none) Set.univ (atArgs k0_part12 c v2 s x y z) Kt) := by
  subst hs
  unfold atArgs
  simp only [k0_part12_eq_skeleton]; unfold k0_part12_skel
  simp only [Prog.lift, Prog.bind_op, Prog.bind_ret, Prog.pure_eq_ret]
  iintro #HE Hx HA3 HO0 Hk
  iapply (wp_xw I (chunk false 1 c) (col false 1) c rfl (off3_0 c) rfl rfl) $$ Hx
  iintro Hx
  iapply (wp_xw I (chunk true 1 c) (col true 1) c rfl (off4_0 c) rfl rfl) $$ Hx
  iintro Hx
  iapply (wp_xw I (c) (col false 0) c rfl (off5_eq c) rfl rfl) $$ Hx
  iintro Hx
  iapply (wp_load_slot false c 3 (S I false (bw false c) 2) rfl rfl) $$ HA3
  iintro HA3
  ihave HA3 := (slot_any false c 3 _) $$ HA3
  iapply (wp_stage 0 (outv I c 0) c rfl rfl (out_of I c 0 false 0 2 (by decide) (by decide) (by decide) (by decide))) $$ HO0
  iintro HO0
  iapply (wp_end c _)
  iapply Hk $$ [] Hx HA3 HO0
  ipureintro; exact ⟨rfl, rfl⟩

/-- The first finished block is copied out; two waits. -/
theorem part13 (c : Dev nD) (v7) (Kt) :
    Env I ⊢ iprop(oslot c 0 (outv I c 0) -∗ at_ (outC 0 c) 0 -∗ outs c 0 -∗ Pro c 20 -∗ credS c (false, 3)
      -∗ (fly c 0 0 -∗ outs c 1 -∗ Pro c 22 -∗ anySlot false c 4 -∗ slot false c 0 (S I false (bw false c) 3) -∗ grant true c 4 -∗ Kt ⟨⟩)
      -∗ wp frame (wpE (defs₀ (F := F)) 𝒱₀ (c : Thread nD τ) none) Set.univ (atArgs k0_part13 v7) Kt) := by
  unfold atArgs
  simp only [k0_part13_eq_skeleton]; unfold k0_part13_skel
  simp only [Prog.lift, Prog.bind_op, Prog.bind_ret, Prog.pure_eq_ret]
  iintro #HE HO0 Ho0 Hu HP HcA Hk
  iapply (wp_emit I 0 0 0 0 1 (by decide) rfl rfl c rfl rfl rfl) $$ HE Hu Ho0 HO0
  iintro ⟨Hu, Ho0⟩
  iapply (wp_left I false 3 4 0 20 21 (by decide) c rfl rfl) $$ HE HP HcA
  iintro ⟨HP, HA4⟩
  iapply (wp_come I false 3 4 0 21 22 (by decide) true 4 1 (by decide) c rfl rfl) $$ HE HP
  iintro ⟨HP, HA0, HgB⟩
  iapply (wp_end c _)
  iapply Hk $$ Ho0 Hu HP HA4 HA0 HgB

/-- Two waits; adding up. -/
theorem part14 (c : Dev nD) (v5 v7) (v329) (h329 : v329 = part I false 1 1 c) (v338) (h338 : v338 = part I true 1 1 c) (Kt) :
    Env I ⊢ iprop(Pro c 22 -∗ credS c (true, 3) -∗ slot false c 0 (S I false (bw false c) 3)
      -∗ (Pro c 24 -∗ anySlot true c 4 -∗ slot true c 0 (S I true c 4) -∗ grant false c 4 -∗ slot false c 0 (S I false c 4) -∗ Kt ⟨⟩)
      -∗ wp frame (wpE (defs₀ (F := F)) 𝒱₀ (c : Thread nD τ) none) Set.univ (atArgs k0_part14 v5 v7 v329 v338) Kt) := by
  subst h329
  subst h338
  unfold atArgs
  simp only [k0_part14_eq_skeleton]; unfold k0_part14_skel
  simp only [Prog.lift, Prog.bind_op, Prog.bind_ret, Prog.pure_eq_ret]
  iintro #HE HP HcB HA0 Hk
  iapply (wp_left I true 3 4 0 22 23 (by decide) c rfl rfl) $$ HE HP HcB
  iintro ⟨HP, HB4⟩
  iapply (wp_come I true 3 4 0 23 24 (by decide) false 4 1 (by decide) c rfl rfl) $$ HE HP
  iintro ⟨HP, HB0, HgA⟩
  iapply (wp_sum false 0 (S I false (bw false c) 3) (S I false c 4) c rfl rfl rfl) $$ HA0
  iintro HA0
  iapply (wp_sum true 0 (S I true (bw true c) 3) (S I true c 4) c rfl rfl rfl) $$ HB0
  iintro HB0
  iapply (wp_end c _)
  iapply Hk $$ HP HB4 HB0 HgA HA0

/-- Both sends of the fifth step; the next product's factors. -/
theorem part15 (c : Dev nD) (v2 v5) (Kt) :
    Env I ⊢ iprop(slot false c 0 (S I false c 4) -∗ grant false c 4 -∗ Pro c 24 -∗ anySlot true c 2 -∗ slot true c 0 (S I true c 4) -∗ grant true c 4 -∗ anySlot false c 2 -∗ Opn I c
      -∗ (∀ r u v z, ⌜u = k0_pay20 (xch (I.x c) (chunk false 2 c)) ∧ v = k0_pay21 (wch (I.w c) (col false 1)) ∧ z = constant S1024x1024 .f32 0x00000000#32⌝ -∗ Pro c 26 -∗ credS c (false, 4) -∗ credS c (true, 4) -∗ Opn I c -∗ Kt ⟨r, u, v, z⟩)
      -∗ wp frame (wpE (defs₀ (F := F)) 𝒱₀ (c : Thread nD τ) none) Set.univ (atArgs k0_part15 c v2 v5) Kt) := by
  unfold atArgs
  simp only [k0_part15_eq_skeleton]; unfold k0_part15_skel
  simp only [Prog.lift, Prog.bind_op, Prog.bind_ret, Prog.pure_eq_ret]
  iintro #HE HA0 HgA HP HB2 HB0 HgB HA2 Hx Hk
  iapply (wp_go I false 4 0 1 24 25 (by decide) true 5 2 (by decide) c _ (dev_f c (k0_dev11_eq c)) rfl rfl rfl rfl) $$ HE HP HA0 HgA HB2
  iintro ⟨HP, HcA⟩
  iapply (wp_go I true 4 0 1 25 26 (by decide) false 5 2 (by decide) c _ (dev_b c (k0_dev12_eq c)) rfl rfl rfl rfl) $$ HE HP HB0 HgB HA2
  iintro ⟨HP, HcB⟩
  iapply (wp_x I (chunk false 2 c) c rfl (off3_1 c)) $$ Hx
  iintro Hx
  iapply (wp_w I (col false 1) c rfl rfl) $$ Hx
  iintro Hx
  iapply (wp_end c _)
  iapply Hk $$ [] HP HcA HcB Hx
  ipureintro; exact ⟨rfl, rfl, rfl⟩

/-- The products of the next stage; the second finished block is staged and copied out. -/
theorem part16 (c : Dev nD) (v2) (s) (hs : s = scale I c) (r) (v437) (h437 : v437 = k0_pay20 (xch (I.x c) (chunk false 2 c))) (v440) (h440 : v440 = k0_pay21 (wch (I.w c) (col false 1))) (z) (hz : z = constant S1024x1024 .f32 0x00000000#32) (Kt) :
    Env I ⊢ iprop(Opn I c -∗ slot true c 3 (S I true (bw true c) 2) -∗ anyO c 1 -∗ at_ (outC 1 c) 0 -∗ outs c 1
      -∗ (∀ u v, ⌜u = part I false 1 2 c ∧ v = part I true 1 2 c⌝ -∗ Opn I c -∗ anySlot true c 3 -∗ fly c 1 0 -∗ outs c 2 -∗ Kt ⟨u, v⟩)
      -∗ wp frame (wpE (defs₀ (F := F)) 𝒱₀ (c : Thread nD τ) none) Set.univ (atArgs k0_part16 c v2 s r v437 v440 z) Kt) := by
  subst hs
  subst h437
  subst h440
  subst hz
  unfold atArgs
  simp only [k0_part16_eq_skeleton]; unfold k0_part16_skel
  simp only [Prog.lift, Prog.bind_op, Prog.bind_ret, Prog.pure_eq_ret]
  iintro #HE Hx HB3 HO1 Ho1 Hu Hk
  iapply (wp_xw I (chunk true 2 c) (col true 1) c rfl (off4_1 c) rfl rfl) $$ Hx
  iintro Hx
  iapply (wp_xw I (c) (col true 0) c rfl (off5_eq c) rfl rfl) $$ Hx
  iintro Hx
  iapply (wp_load_slot true c 3 (S I true (bw true c) 2) rfl rfl) $$ HB3
  iintro HB3
  ihave HB3 := (slot_any true c 3 _) $$ HB3
  iapply (wp_stage 1 (outv I c 1) c rfl rfl (out_of I c 1 true 0 2 (by decide) (by decide) (by decide) (by decide))) $$ HO1
  iintro HO1
  iapply (wp_emit I 1 1 0 1 2 (by decide) rfl rfl c rfl rfl rfl) $$ HE Hu Ho1 HO1
  iintro ⟨Hu, Ho1⟩
  iapply (wp_end c _)
  iapply Hk $$ [] Hx HB3 Ho1 Hu
  ipureintro; exact ⟨rfl, rfl⟩

end Cert.RingProof

end
-- ==== Proof.Body3.lean ====
/-
# The kernel's parts: the second reduction and the third
-/
module

public import proofs.«01_k».proof.Proof.Body2

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Ins F)

/-- Three waits of the fifth step. -/
theorem part17 (c : Dev nD) (v5 v7) (Kt) :
    Env I ⊢ iprop(Pro c 26 -∗ credS c (false, 4) -∗ credS c (true, 4)
      -∗ (Pro c 29 -∗ anySlot false c 0 -∗ slot false c 1 (S I false (bw false c) 4) -∗ grant true c 5 -∗ anySlot true c 0 -∗ Kt ⟨⟩)
      -∗ wp frame (wpE (defs₀ (F := F)) 𝒱₀ (c : Thread nD τ) none) Set.univ (atArgs k0_part17 v5 v7) Kt) := by
  unfold atArgs
  simp only [k0_part17_eq_skeleton]; unfold k0_part17_skel
  simp only [Prog.lift, Prog.bind_op, Prog.bind_ret, Prog.pure_eq_ret]
  iintro #HE HP HcA HcB Hk
  iapply (wp_left I false 4 0 1 26 27 (by decide) c rfl rfl) $$ HE HP HcA
  iintro ⟨HP, HA0⟩
  iapply (wp_come I false 4 0 1 27 28 (by decide) true 5 2 (by decide) c rfl rfl) $$ HE HP
  iintro ⟨HP, HA1, HgB⟩
  iapply (wp_left I true 4 0 1 28 29 (by decide) c rfl rfl) $$ HE HP HcB
  iintro ⟨HP, HB0⟩
  iapply (wp_end c _)
  iapply Hk $$ HP HA0 HA1 HgB HB0

/-- The last wait; adding up; the next send. -/
theorem part18 (c : Dev nD) (v7) (v441) (h441 : v441 = part I false 1 2 c) (v450) (h450 : v450 = part I true 1 2 c) (Kt) :
    Env I ⊢ iprop(Pro c 29 -∗ slot false c 1 (S I false (bw false c) 4) -∗ anySlot true c 4
      -∗ (Pro c 31 -∗ slot true c 1 (S I true c 5) -∗ credS c (false, 5) -∗ Kt ⟨⟩)
      -∗ wp frame (wpE (defs₀ (F := F)) 𝒱₀ (c : Thread nD τ) none) Set.univ (atArgs k0_part18 c v7 v441 v450) Kt) := by
  subst h441
  subst h450
  unfold atArgs
  simp only [k0_part18_eq_skeleton]; unfold k0_part18_skel
  simp only [Prog.lift, Prog.bind_op, Prog.bind_ret, Prog.pure_eq_ret]
  iintro #HE HP HA1 HB4 Hk
  iapply (wp_come I true 4 0 1 29 30 (by decide) false 5 2 (by decide) c rfl rfl) $$ HE HP
  iintro ⟨HP, HB1, HgA⟩
  iapply (wp_sum false 1 (S I false (bw false c) 4) (S I false c 5) c rfl rfl rfl) $$ HA1
  iintro HA1
  iapply (wp_sum true 1 (S I true (bw true c) 4) (S I true c 5) c rfl rfl rfl) $$ HB1
  iintro HB1
  iapply (wp_go I false 5 1 2 30 31 (by decide) true 6 4 (by decide) c _ (dev_f c (k0_dev13_eq c)) rfl rfl rfl rfl) $$ HE HP HA1 HgA HB4
  iintro ⟨HP, HcA⟩
  iapply (wp_end c _)
  iapply Hk $$ HP HB1 HcA

/-- The other send; the third reduction's first partial sums. -/
theorem part19 (c : Dev nD) (v5 v7) (Kt) :
    Env I ⊢ iprop(slot true c 1 (S I true c 5) -∗ grant true c 5 -∗ Pro c 31 -∗ anySlot false c 4 -∗ Opn I c -∗ anySlot false c 3 -∗ anySlot true c 3
      -∗ (∀ u v, ⌜u = k0_pay28 (xch (I.x c) (chunk true 0 c)) (wch (I.w c) (col true 2))⌝ -∗ Pro c 32 -∗ credS c (true, 5) -∗ Opn I c -∗ slot false c 3 (S I false c 6) -∗ anySlot true c 3 -∗ Kt ⟨u, v⟩)
      -∗ wp frame (wpE (defs₀ (F := F)) 𝒱₀ (c : Thread nD τ) none) Set.univ (atArgs k0_part19 c v5 v7) Kt) := by
  unfold atArgs
  simp only [k0_part19_eq_skeleton]; unfold k0_part19_skel
  simp only [Prog.lift, Prog.bind_op, Prog.bind_ret, Prog.pure_eq_ret]
  iintro #HE HB1 HgB HP HA4 Hx HA3 HB3 Hk
  iapply (wp_go I true 5 1 2 31 32 (by decide) false 6 4 (by decide) c _ (dev_b c (k0_dev14_eq c)) rfl rfl rfl rfl) $$ HE HP HB1 HgB HA4
  iintro ⟨HP, HcB⟩
  iapply (wp_xw I (chunk false 0 c) (col false 2) c rfl (off1_eq c) rfl rfl) $$ Hx
  iintro Hx
  iapply (wp_seed false 3 (S I false c 6) c rfl rfl rfl) $$ HA3
  iintro HA3
  iapply (wp_xw I (chunk true 0 c) (col true 2) c rfl (off2_eq c) rfl rfl) $$ Hx
  iintro Hx
  iapply (wp_peek true 3 c rfl rfl) $$ HB3
  iintro %dead HB3
  iapply (wp_end c _)
  iapply Hk $$ [] HP HcB Hx HA3 HB3
  ipureintro; exact rfl

/-- The second of them is stored; three waits of the sixth step. -/
theorem part20 (c : Dev nD) (v5 v7) (v560) (h560 : v560 = k0_pay28 (xch (I.x c) (chunk true 0 c)) (wch (I.w c) (col true 2))) (z) (Kt) :
    Env I ⊢ iprop(anySlot true c 3 -∗ Pro c 32 -∗ credS c (false, 5) -∗ credS c (true, 5)
      -∗ (∀ u, slot true c 3 (S I true c 6) -∗ Pro c 35 -∗ anySlot false c 1 -∗ slot false c 2 (S I false (bw false c) 5) -∗ grant true c 6 -∗ anySlot true c 1 -∗ Kt u)
      -∗ wp frame (wpE (defs₀ (F := F)) 𝒱₀ (c : Thread nD τ) none) Set.univ (atArgs k0_part20 v5 v7 v560 z) Kt) := by
  subst h560
  unfold atArgs
  simp only [k0_part20_eq_skeleton]; unfold k0_part20_skel
  simp only [Prog.lift, Prog.bind_op, Prog.bind_ret, Prog.pure_eq_ret]
  iintro #HE HB3 HP HcA HcB Hk
  iapply (wp_fill true 3 (S I true c 6) c rfl rfl rfl) $$ HB3
  iintro HB3
  iapply (wp_left I false 5 1 2 32 33 (by decide) c rfl rfl) $$ HE HP HcA
  iintro ⟨HP, HA1⟩
  iapply (wp_come I false 5 1 2 33 34 (by decide) true 6 4 (by decide) c rfl rfl) $$ HE HP
  iintro ⟨HP, HA2, HgB⟩
  iapply (wp_left I true 5 1 2 34 35 (by decide) c rfl rfl) $$ HE HP HcB
  iintro ⟨HP, HB1⟩
  iapply (wp_end c _)
  iapply Hk $$ HB3 HP HA1 HA2 HgB HB1

/-- The last wait; both sends of the seventh step. -/
theorem part21 (c : Dev nD) (v2 v5 v7 z) (Kt) :
    Env I ⊢ iprop(Pro c 35 -∗ slot false c 3 (S I false c 6) -∗ anySlot true c 0 -∗ slot true c 3 (S I true c 6) -∗ grant true c 6 -∗ anySlot false c 0
      -∗ (∀ u v, Pro c 38 -∗ slot true c 2 (S I true (bw true c) 5) -∗ credS c (false, 6) -∗ credS c (true, 6) -∗ Kt ⟨u, v⟩)
      -∗ wp frame (wpE (defs₀ (F := F)) 𝒱₀ (c : Thread nD τ) none) Set.univ (atArgs k0_part21 c v2 v5 v7 z) Kt) := by
  unfold atArgs
  simp only [k0_part21_eq_skeleton]; unfold k0_part21_skel
  simp only [Prog.lift, Prog.bind_op, Prog.bind_ret, Prog.pure_eq_ret]
  iintro #HE HP HA3 HB0 HB3 HgB HA0 Hk
  iapply (wp_come I true 5 1 2 35 36 (by decide) false 6 4 (by decide) c rfl rfl) $$ HE HP
  iintro ⟨HP, HB2, HgA⟩
  iapply (wp_go I false 6 3 4 36 37 (by decide) true 7 0 (by decide) c _ (dev_f c (k0_dev15_eq c)) rfl rfl rfl rfl) $$ HE HP HA3 HgA HB0
  iintro ⟨HP, HcA⟩
  iapply (wp_go I true 6 3 4 37 38 (by decide) false 7 0 (by decide) c _ (dev_b c (k0_dev16_eq c)) rfl rfl rfl rfl) $$ HE HP HB3 HgB HA0
  iintro ⟨HP, HcB⟩
  iapply (wp_end c _)
  iapply Hk $$ HP HB2 HcA HcB

/-- Products of the next stage; the third finished block before scaling. -/
theorem part22 (c : Dev nD) (v2 y z) (Kt) :
    Env I ⊢ iprop(Opn I c -∗ slot false c 2 (S I false (bw false c) 5)
      -∗ (∀ u v x, ⌜u = part I false 2 1 c ∧ v = part I true 2 1 c ∧ x = k0_pay32 (xch (I.x c) (c)) (wch (I.w c) (col false 1)) (S I false (bw false c) 5)⌝ -∗ Opn I c -∗ anySlot false c 2 -∗ Kt ⟨u, v, x⟩)
      -∗ wp frame (wpE (defs₀ (F := F)) 𝒱₀ (c : Thread nD τ) none) Set.univ (atArgs k0_part22 c v2 y z) Kt) := by
  unfold atArgs
  simp only [k0_part22_eq_skeleton]; unfold k0_part22_skel
  simp only [Prog.lift, Prog.bind_op, Prog.bind_ret, Prog.pure_eq_ret]
  iintro #HE Hx HA2 Hk
  iapply (wp_xw I (chunk false 1 c) (col false 2) c rfl (off3_0 c) rfl rfl) $$ Hx
  iintro Hx
  iapply (wp_xw I (chunk true 1 c) (col true 2) c rfl (off4_0 c) rfl rfl) $$ Hx
  iintro Hx
  iapply (wp_xw I (c) (col false 1) c rfl (off5_eq c) rfl rfl) $$ Hx
  iintro Hx
  iapply (wp_load_slot false c 2 (S I false (bw false c) 5) rfl rfl) $$ HA2
  iintro HA2
  ihave HA2 := (slot_any false c 2 _) $$ HA2
  iapply (wp_end c _)
  iapply Hk $$ [] Hx HA2
  ipureintro; exact ⟨rfl, rfl, rfl⟩

/-- The third finished block is staged and copied out once the first has left. -/
theorem part23 (c : Dev nD) (v7) (s) (hs : s = scale I c) (v649) (h649 : v649 = k0_pay32 (xch (I.x c) (c)) (wch (I.w c) (col false 1)) (S I false (bw false c) 5)) (Kt) :
    Env I ⊢ iprop(Pro c 38 -∗ fly c 0 0 -∗ outs c 2 -∗ credS c (false, 6)
      -∗ (Pro c 39 -∗ fly c 0 1 -∗ yblk c 0 (outw I c 0) -∗ outs c 3 -∗ anySlot false c 3 -∗ Kt ⟨⟩)
      -∗ wp frame (wpE (defs₀ (F := F)) 𝒱₀ (c : Thread nD τ) none) Set.univ (atArgs k0_part23 v7 s v649) Kt) := by
  subst hs
  subst h649
  unfold atArgs
  simp only [k0_part23_eq_skeleton]; unfold k0_part23_skel
  simp only [Prog.lift, Prog.bind_op, Prog.bind_ret, Prog.pure_eq_ret]
  iintro #HE HP Ho0 Hu HcA Hk
  iapply (wp_done I 0 0 0 1 38 (by decide) rfl c rfl rfl) $$ HE HP Ho0
  iintro ⟨HP, Ho0, HO0, HY0⟩
  iapply (wp_stage 0 (outv I c 2) c rfl rfl (out_of I c 2 false 1 5 (by decide) (by decide) (by decide) (by decide))) $$ HO0
  iintro HO0
  iapply (wp_emit I 2 0 1 2 3 (by decide) rfl rfl c rfl rfl rfl) $$ HE Hu Ho0 HO0
  iintro ⟨Hu, Ho0⟩
  iapply (wp_left I false 6 3 4 38 39 (by decide) c rfl rfl) $$ HE HP HcA
  iintro ⟨HP, HA3⟩
  iapply (wp_end c _)
  iapply Hk $$ HP Ho0 HY0 Hu HA3

/-- The waits of the seventh step; adding up in the first direction. -/
theorem part24 (c : Dev nD) (v5) (v627) (h627 : v627 = part I false 2 1 c) (Kt) :
    Env I ⊢ iprop(Pro c 39 -∗ credS c (true, 6)
      -∗ (∀ u, ⌜u = S I true (bw true c) 6⌝ -∗ Pro c 42 -∗ slot false c 4 (S I false c 7) -∗ grant true c 7 -∗ anySlot true c 3 -∗ slot true c 4 (S I true (bw true c) 6) -∗ grant false c 7 -∗ Kt u)
      -∗ wp frame (wpE (defs₀ (F := F)) 𝒱₀ (c : Thread nD τ) none) Set.univ (atArgs k0_part24 v5 v627) Kt) := by
  subst h627
  unfold atArgs
  simp only [k0_part24_eq_skeleton]; unfold k0_part24_skel
  simp only [Prog.lift, Prog.bind_op, Prog.bind_ret, Prog.pure_eq_ret]
  iintro #HE HP HcB Hk
  iapply (wp_come I false 6 3 4 39 40 (by decide) true 7 0 (by decide) c rfl rfl) $$ HE HP
  iintro ⟨HP, HA4, HgB⟩
  iapply (wp_left I true 6 3 4 40 41 (by decide) c rfl rfl) $$ HE HP HcB
  iintro ⟨HP, HB3⟩
  iapply (wp_come I true 6 3 4 41 42 (by decide) false 7 0 (by decide) c rfl rfl) $$ HE HP
  iintro ⟨HP, HB4, HgA⟩
  iapply (wp_sum false 4 (S I false (bw false c) 6) (S I false c 7) c rfl rfl rfl) $$ HA4
  iintro HA4
  iapply (wp_load_slot true c 4 (S I true (bw true c) 6) rfl rfl) $$ HB4
  iintro HB4
  iapply (wp_end c _)
  iapply Hk $$ [] HP HA4 HgB HB3 HB4 HgA
  ipureintro; exact rfl

/-- Adding up in the other direction; both sends of the eighth step. -/
theorem part25 (c : Dev nD) (v2 v5 v7) (v636) (h636 : v636 = part I true 2 1 c) (v701) (h701 : v701 = S I true (bw true c) 6) (Kt) :
    Env I ⊢ iprop(slot true c 4 (S I true (bw true c) 6) -∗ slot false c 4 (S I false c 7) -∗ grant false c 7 -∗ Pro c 42 -∗ anySlot true c 1 -∗ grant true c 7 -∗ anySlot false c 1
      -∗ (∀ u v, Pro c 44 -∗ credS c (false, 7) -∗ credS c (true, 7) -∗ Kt ⟨u, v⟩)
      -∗ wp frame (wpE (defs₀ (F := F)) 𝒱₀ (c : Thread nD τ) none) Set.univ (atArgs k0_part25 c v2 v5 v7 v636 v701) Kt) := by
  subst h636
  subst h701
  unfold atArgs
  simp only [k0_part25_eq_skeleton]; unfold k0_part25_skel
  simp only [Prog.lift, Prog.bind_op, Prog.bind_ret, Prog.pure_eq_ret]
  iintro #HE HB4 HA4 HgA HP HB1 HgB HA1 Hk
  iapply (wp_put true 4 (S I true (bw true c) 6) (S I true c 7) c rfl rfl rfl) $$ HB4
  iintro HB4
  iapply (wp_go I false 7 4 0 42 43 (by decide) true 8 1 (by decide) c _ (dev_f c (k0_dev17_eq c)) rfl rfl rfl rfl) $$ HE HP HA4 HgA HB1
  iintro ⟨HP, HcA⟩
  iapply (wp_go I true 7 4 0 43 44 (by decide) false 8 1 (by decide) c _ (dev_b c (k0_dev18_eq c)) rfl rfl rfl rfl) $$ HE HP HB4 HgB HA1
  iintro ⟨HP, HcB⟩
  iapply (wp_end c _)
  iapply Hk $$ HP HcA HcB

/-- Products of the next stage; the fourth finished block before scaling. -/
theorem part26 (c : Dev nD) (v2 y z) (Kt) :
    Env I ⊢ iprop(Opn I c -∗ slot true c 2 (S I true (bw true c) 5)
      -∗ (∀ u v x, ⌜u = part I false 2 2 c ∧ v = part I true 2 2 c ∧ x = k0_pay38 (xch (I.x c) (c)) (wch (I.w c) (col true 1)) (S I true (bw true c) 5)⌝ -∗ Opn I c -∗ anySlot true c 2 -∗ Kt ⟨u, v, x⟩)
      -∗ wp frame (wpE (defs₀ (F := F)) 𝒱₀ (c : Thread nD τ) none) Set.univ (atArgs k0_part26 c v2 y z) Kt) := by
  unfold atArgs
  simp only [k0_part26_eq_skeleton]; unfold k0_part26_skel
  simp only [Prog.lift, Prog.bind_op, Prog.bind_ret, Prog.pure_eq_ret]
  iintro #HE Hx HB2 Hk
  iapply (wp_xw I (chunk false 2 c) (col false 2) c rfl (off3_1 c) rfl rfl) $$ Hx
  iintro Hx
  iapply (wp_xw I (chunk true 2 c) (col true 2) c rfl (off4_1 c) rfl rfl) $$ Hx
  iintro Hx
  iapply (wp_xw I (c) (col true 1) c rfl (off5_eq c) rfl rfl) $$ Hx
  iintro Hx
  iapply (wp_load_slot true c 2 (S I true (bw true c) 5) rfl rfl) $$ HB2
  iintro HB2
  ihave HB2 := (slot_any true c 2 _) $$ HB2
  iapply (wp_end c _)
  iapply Hk $$ [] Hx HB2
  ipureintro; exact ⟨rfl, rfl, rfl⟩

/-- The fourth finished block is staged and copied out once the second has left. -/
theorem part27 (c : Dev nD) (v7) (s) (hs : s = scale I c) (v766) (h766 : v766 = k0_pay38 (xch (I.x c) (c)) (wch (I.w c) (col true 1)) (S I true (bw true c) 5)) (Kt) :
    Env I ⊢ iprop(Pro c 44 -∗ fly c 1 0 -∗ outs c 3 -∗ credS c (false, 7)
      -∗ (Pro c 45 -∗ fly c 1 1 -∗ yblk c 1 (outw I c 1) -∗ outs c 4 -∗ anySlot false c 4 -∗ Kt ⟨⟩)
      -∗ wp frame (wpE (defs₀ (F := F)) 𝒱₀ (c : Thread nD τ) none) Set.univ (atArgs k0_part27 v7 s v766) Kt) := by
  subst hs
  subst h766
  unfold atArgs
  simp only [k0_part27_eq_skeleton]; unfold k0_part27_skel
  simp only [Prog.lift, Prog.bind_op, Prog.bind_ret, Prog.pure_eq_ret]
  iintro #HE HP Ho1 Hu HcA Hk
  iapply (wp_done I 1 1 0 1 44 (by decide) rfl c rfl rfl) $$ HE HP Ho1
  iintro ⟨HP, Ho1, HO1, HY1⟩
  iapply (wp_stage 1 (outv I c 3) c rfl rfl (out_of I c 3 true 1 5 (by decide) (by decide) (by decide) (by decide))) $$ HO1
  iintro HO1
  iapply (wp_emit I 3 1 1 3 4 (by decide) rfl rfl c rfl rfl rfl) $$ HE Hu Ho1 HO1
  iintro ⟨Hu, Ho1⟩
  iapply (wp_left I false 7 4 0 44 45 (by decide) c rfl rfl) $$ HE HP HcA
  iintro ⟨HP, HA4⟩
  iapply (wp_end c _)
  iapply Hk $$ HP Ho1 HY1 Hu HA4

/-- The waits of the eighth step; adding up in the first direction. -/
theorem part28 (c : Dev nD) (v5) (v744) (h744 : v744 = part I false 2 2 c) (Kt) :
    Env I ⊢ iprop(Pro c 45 -∗ credS c (true, 7)
      -∗ (∀ u, ⌜u = k0_pay41 (S I true (bw true c) 7)⌝ -∗ Pro c 48 -∗ slot false c 0 (S I false c 8) -∗ grant true c 8 -∗ anySlot true c 4 -∗ slot true c 0 (S I true (bw true c) 7) -∗ grant false c 8 -∗ Kt u)
      -∗ wp frame (wpE (defs₀ (F := F)) 𝒱₀ (c : Thread nD τ) none) Set.univ (atArgs k0_part28 v5 v744) Kt) := by
  subst h744
  unfold atArgs
  simp only [k0_part28_eq_skeleton]; unfold k0_part28_skel
  simp only [Prog.lift, Prog.bind_op, Prog.bind_ret, Prog.pure_eq_ret]
  iintro #HE HP HcB Hk
  iapply (wp_come I false 7 4 0 45 46 (by decide) true 8 1 (by decide) c rfl rfl) $$ HE HP
  iintro ⟨HP, HA0, HgB⟩
  iapply (wp_left I true 7 4 0 46 47 (by decide) c rfl rfl) $$ HE HP HcB
  iintro ⟨HP, HB4⟩
  iapply (wp_come I true 7 4 0 47 48 (by decide) false 8 1 (by decide) c rfl rfl) $$ HE HP
  iintro ⟨HP, HB0, HgA⟩
  iapply (wp_sum false 0 (S I false (bw false c) 7) (S I false c 8) c rfl rfl rfl) $$ HA0
  iintro HA0
  iapply (wp_load_slot true c 0 (S I true (bw true c) 7) rfl rfl) $$ HB0
  iintro HB0
  iapply (wp_end c _)
  iapply Hk $$ [] HP HA0 HgB HB4 HB0 HgA
  ipureintro; exact rfl

/-- Adding up in the other direction; both sends of the ninth step; a block of rows is read. -/
theorem part29 (c : Dev nD) (v5 v7) (v753) (h753 : v753 = part I true 2 2 c) (v820) (h820 : v820 = k0_pay41 (S I true (bw true c) 7)) (Kt) :
    Env I ⊢ iprop(slot true c 0 (S I true (bw true c) 7) -∗ slot false c 0 (S I false c 8) -∗ grant false c 8 -∗ Pro c 48 -∗ anySlot true c 3 -∗ grant true c 8 -∗ anySlot false c 3 -∗ Opn I c
      -∗ (∀ u, ⌜u = k0_pay43 (xch (I.x c) (chunk false 0 c))⌝ -∗ Pro c 50 -∗ credS c (false, 8) -∗ credS c (true, 8) -∗ Opn I c -∗ Kt u)
      -∗ wp frame (wpE (defs₀ (F := F)) 𝒱₀ (c : Thread nD τ) none) Set.univ (atArgs k0_part29 c v5 v7 v753 v820) Kt) := by
  subst h753
  subst h820
  unfold atArgs
  simp only [k0_part29_eq_skeleton]; unfold k0_part29_skel
  simp only [Prog.lift, Prog.bind_op, Prog.bind_ret, Prog.pure_eq_ret]
  iintro #HE HB0 HA0 HgA HP HB3 HgB HA3 Hx Hk
  iapply (wp_put true 0 (S I true (bw true c) 7) (S I true c 8) c rfl rfl rfl) $$ HB0
  iintro HB0
  iapply (wp_go I false 8 0 1 48 49 (by decide) true 9 3 (by decide) c _ (dev_f c (k0_dev19_eq c)) rfl rfl rfl rfl) $$ HE HP HA0 HgA HB3
  iintro ⟨HP, HcA⟩
  iapply (wp_go I true 8 0 1 49 50 (by decide) false 9 3 (by decide) c _ (dev_b c (k0_dev20_eq c)) rfl rfl rfl rfl) $$ HE HP HB0 HgB HA3
  iintro ⟨HP, HcB⟩
  iapply (wp_x I (chunk false 0 c) c rfl (off1_eq c)) $$ Hx
  iintro Hx
  iapply (wp_end c _)
  iapply Hk $$ [] HP HcA HcB Hx
  ipureintro; exact rfl

/-- The fourth reduction's first partial sums; a wait. -/
theorem part30 (c : Dev nD) (v7) (v850) (h850 : v850 = k0_pay43 (xch (I.x c) (chunk false 0 c))) (Kt) :
    Env I ⊢ iprop(Opn I c -∗ anySlot false c 2 -∗ anySlot true c 2 -∗ Pro c 50 -∗ credS c (false, 8)
      -∗ (Opn I c -∗ slot false c 2 (S I false c 9) -∗ slot true c 2 (S I true c 9) -∗ Pro c 51 -∗ anySlot false c 0 -∗ Kt ⟨⟩)
      -∗ wp frame (wpE (defs₀ (F := F)) 𝒱₀ (c : Thread nD τ) none) Set.univ (atArgs k0_part30 c v7 v850) Kt) := by
  subst h850
  unfold atArgs
  simp only [k0_part30_eq_skeleton]; unfold k0_part30_skel
  simp only [Prog.lift, Prog.bind_op, Prog.bind_ret, Prog.pure_eq_ret]
  iintro #HE Hx HA2 HB2 HP HcA Hk
  iapply (wp_w I (col false 3) c rfl rfl) $$ Hx
  iintro Hx
  iapply (wp_seed false 2 (S I false c 9) c rfl rfl rfl) $$ HA2
  iintro HA2
  iapply (wp_xw I (chunk true 0 c) (col true 3) c rfl (off2_eq c) rfl rfl) $$ Hx
  iintro Hx
  iapply (wp_seed true 2 (S I true c 9) c rfl rfl rfl) $$ HB2
  iintro HB2
  iapply (wp_left I false 8 0 1 50 51 (by decide) c rfl rfl) $$ HE HP HcA
  iintro ⟨HP, HA0⟩
  iapply (wp_end c _)
  iapply Hk $$ Hx HA2 HB2 HP HA0

end Cert.RingProof

end
-- ==== Proof.Body4.lean ====
/-
# The kernel's parts: the fourth reduction
-/
module

public import proofs.«01_k».proof.Proof.Body3

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Ins F)

/-- The other waits of the ninth step. -/
theorem part31 (c : Dev nD) (v5 v7) (Kt) :
    Env I ⊢ iprop(Pro c 51 -∗ credS c (true, 8)
      -∗ (Pro c 54 -∗ slot false c 1 (S I false (bw false c) 8) -∗ grant true c 9 -∗ anySlot true c 0 -∗ slot true c 1 (S I true (bw true c) 8) -∗ grant false c 9 -∗ Kt ⟨⟩)
      -∗ wp frame (wpE (defs₀ (F := F)) 𝒱₀ (c : Thread nD τ) none) Set.univ (atArgs k0_part31 v5 v7) Kt) := by
  unfold atArgs
  simp only [k0_part31_eq_skeleton]; unfold k0_part31_skel
  simp only [Prog.lift, Prog.bind_op, Prog.bind_ret, Prog.pure_eq_ret]
  iintro #HE HP HcB Hk
  iapply (wp_come I false 8 0 1 51 52 (by decide) true 9 3 (by decide) c rfl rfl) $$ HE HP
  iintro ⟨HP, HA1, HgB⟩
  iapply (wp_left I true 8 0 1 52 53 (by decide) c rfl rfl) $$ HE HP HcB
  iintro ⟨HP, HB0⟩
  iapply (wp_come I true 8 0 1 53 54 (by decide) false 9 3 (by decide) c rfl rfl) $$ HE HP
  iintro ⟨HP, HB1, HgA⟩
  iapply (wp_end c _)
  iapply Hk $$ HP HA1 HgB HB0 HB1 HgA

/-- Both sends of the tenth step; a product, and a block of rows. -/
theorem part32 (c : Dev nD) (v2 v5) (Kt) :
    Env I ⊢ iprop(slot false c 2 (S I false c 9) -∗ grant false c 9 -∗ Pro c 54 -∗ anySlot true c 4 -∗ slot true c 2 (S I true c 9) -∗ grant true c 9 -∗ anySlot false c 4 -∗ Opn I c
      -∗ (∀ u v, ⌜u = part I false 3 1 c ∧ v = xch (I.x c) (chunk true 1 c)⌝ -∗ Pro c 56 -∗ credS c (false, 9) -∗ credS c (true, 9) -∗ Opn I c -∗ Kt ⟨u, v⟩)
      -∗ wp frame (wpE (defs₀ (F := F)) 𝒱₀ (c : Thread nD τ) none) Set.univ (atArgs k0_part32 c v2 v5) Kt) := by
  unfold atArgs
  simp only [k0_part32_eq_skeleton]; unfold k0_part32_skel
  simp only [Prog.lift, Prog.bind_op, Prog.bind_ret, Prog.pure_eq_ret]
  iintro #HE HA2 HgA HP HB4 HB2 HgB HA4 Hx Hk
  iapply (wp_go I false 9 2 3 54 55 (by decide) true 10 4 (by decide) c _ (dev_f c (k0_dev21_eq c)) rfl rfl rfl rfl) $$ HE HP HA2 HgA HB4
  iintro ⟨HP, HcA⟩
  iapply (wp_go I true 9 2 3 55 56 (by decide) false 10 4 (by decide) c _ (dev_b c (k0_dev22_eq c)) rfl rfl rfl rfl) $$ HE HP HB2 HgB HA4
  iintro ⟨HP, HcB⟩
  iapply (wp_xw I (chunk false 1 c) (col false 3) c rfl (off3_0 c) rfl rfl) $$ Hx
  iintro Hx
  iapply (wp_x I (chunk true 1 c) c rfl (off4_0 c)) $$ Hx
  iintro Hx
  iapply (wp_end c _)
  iapply Hk $$ [] HP HcA HcB Hx
  ipureintro; exact ⟨rfl, rfl⟩

/-- The other product; the fifth finished block is staged once the third has left. -/
theorem part33 (c : Dev nD) (v2) (s) (hs : s = scale I c) (v938) (h938 : v938 = xch (I.x c) (chunk true 1 c)) (Kt) :
    Env I ⊢ iprop(Opn I c -∗ slot false c 1 (S I false (bw false c) 8) -∗ Pro c 56 -∗ fly c 0 1
      -∗ (∀ u, ⌜u = part I true 3 1 c⌝ -∗ Opn I c -∗ anySlot false c 1 -∗ Pro c 56 -∗ at_ (outC 0 c) 2 -∗ oslot c 0 (outv I c 4) -∗ yblk c 2 (outw I c 2) -∗ Kt u)
      -∗ wp frame (wpE (defs₀ (F := F)) 𝒱₀ (c : Thread nD τ) none) Set.univ (atArgs k0_part33 c v2 s v938) Kt) := by
  subst hs
  subst h938
  unfold atArgs
  simp only [k0_part33_eq_skeleton]; unfold k0_part33_skel
  simp only [Prog.lift, Prog.bind_op, Prog.bind_ret, Prog.pure_eq_ret]
  iintro #HE Hx HA1 HP Ho0 Hk
  iapply (wp_w I (col true 3) c rfl rfl) $$ Hx
  iintro Hx
  iapply (wp_xw I (c) (col false 2) c rfl (off5_eq c) rfl rfl) $$ Hx
  iintro Hx
  iapply (wp_load_slot false c 1 (S I false (bw false c) 8) rfl rfl) $$ HA1
  iintro HA1
  ihave HA1 := (slot_any false c 1 _) $$ HA1
  iapply (wp_done I 2 0 1 2 56 (by decide) rfl c rfl rfl) $$ HE HP Ho0
  iintro ⟨HP, Ho0, HO0, HY2⟩
  iapply (wp_stage 0 (outv I c 4) c rfl rfl (out_of I c 4 false 2 8 (by decide) (by decide) (by decide) (by decide))) $$ HO0
  iintro HO0
  iapply (wp_end c _)
  iapply Hk $$ [] Hx HA1 HP Ho0 HO0 HY2
  ipureintro; exact rfl

/-- The fifth finished block is copied out; three waits. -/
theorem part34 (c : Dev nD) (v5 v7) (Kt) :
    Env I ⊢ iprop(oslot c 0 (outv I c 4) -∗ at_ (outC 0 c) 2 -∗ outs c 4 -∗ Pro c 56 -∗ credS c (false, 9) -∗ credS c (true, 9)
      -∗ (∀ u, fly c 0 2 -∗ outs c 5 -∗ Pro c 59 -∗ anySlot false c 2 -∗ slot false c 3 (S I false (bw false c) 9) -∗ grant true c 10 -∗ anySlot true c 2 -∗ Kt u)
      -∗ wp frame (wpE (defs₀ (F := F)) 𝒱₀ (c : Thread nD τ) none) Set.univ (atArgs k0_part34 v5 v7) Kt) := by
  unfold atArgs
  simp only [k0_part34_eq_skeleton]; unfold k0_part34_skel
  simp only [Prog.lift, Prog.bind_op, Prog.bind_ret, Prog.pure_eq_ret]
  iintro #HE HO0 Ho0 Hu HP HcA HcB Hk
  iapply (wp_emit I 4 0 2 4 5 (by decide) rfl rfl c rfl rfl rfl) $$ HE Hu Ho0 HO0
  iintro ⟨Hu, Ho0⟩
  iapply (wp_left I false 9 2 3 56 57 (by decide) c rfl rfl) $$ HE HP HcA
  iintro ⟨HP, HA2⟩
  iapply (wp_come I false 9 2 3 57 58 (by decide) true 10 4 (by decide) c rfl rfl) $$ HE HP
  iintro ⟨HP, HA3, HgB⟩
  iapply (wp_left I true 9 2 3 58 59 (by decide) c rfl rfl) $$ HE HP HcB
  iintro ⟨HP, HB2⟩
  iapply (wp_end c _)
  iapply Hk $$ Ho0 Hu HP HA2 HA3 HgB HB2

/-- The last wait of the tenth step; adding up. -/
theorem part35 (c : Dev nD) (v7) (v935) (h935 : v935 = part I false 3 1 c) (v944) (h944 : v944 = part I true 3 1 c) (z) (Kt) :
    Env I ⊢ iprop(Pro c 59 -∗ slot false c 3 (S I false (bw false c) 9)
      -∗ (Pro c 60 -∗ slot true c 3 (S I true c 10) -∗ grant false c 10 -∗ slot false c 3 (S I false c 10) -∗ Kt ⟨⟩)
      -∗ wp frame (wpE (defs₀ (F := F)) 𝒱₀ (c : Thread nD τ) none) Set.univ (atArgs k0_part35 v7 v935 v944 z) Kt) := by
  subst h935
  subst h944
  unfold atArgs
  simp only [k0_part35_eq_skeleton]; unfold k0_part35_skel
  simp only [Prog.lift, Prog.bind_op, Prog.bind_ret, Prog.pure_eq_ret]
  iintro #HE HP HA3 Hk
  iapply (wp_come I true 9 2 3 59 60 (by decide) false 10 4 (by decide) c rfl rfl) $$ HE HP
  iintro ⟨HP, HB3, HgA⟩
  iapply (wp_sum false 3 (S I false (bw false c) 9) (S I false c 10) c rfl rfl rfl) $$ HA3
  iintro HA3
  iapply (wp_sum true 3 (S I true (bw true c) 9) (S I true c 10) c rfl rfl rfl) $$ HB3
  iintro HB3
  iapply (wp_end c _)
  iapply Hk $$ HP HB3 HgA HA3

/-- Both sends of the eleventh step; a product, and a block of rows. -/
theorem part36 (c : Dev nD) (v2 v5) (Kt) :
    Env I ⊢ iprop(slot false c 3 (S I false c 10) -∗ grant false c 10 -∗ Pro c 60 -∗ anySlot true c 0 -∗ slot true c 3 (S I true c 10) -∗ grant true c 10 -∗ anySlot false c 0 -∗ Opn I c
      -∗ (∀ u v, ⌜u = part I false 3 2 c ∧ v = k0_pay52 (xch (I.x c) (chunk true 2 c))⌝ -∗ Pro c 62 -∗ credS c (false, 10) -∗ credS c (true, 10) -∗ Opn I c -∗ Kt ⟨u, v⟩)
      -∗ wp frame (wpE (defs₀ (F := F)) 𝒱₀ (c : Thread nD τ) none) Set.univ (atArgs k0_part36 c v2 v5) Kt) := by
  unfold atArgs
  simp only [k0_part36_eq_skeleton]; unfold k0_part36_skel
  simp only [Prog.lift, Prog.bind_op, Prog.bind_ret, Prog.pure_eq_ret]
  iintro #HE HA3 HgA HP HB0 HB3 HgB HA0 Hx Hk
  iapply (wp_go I false 10 3 4 60 61 (by decide) true 11 0 (by decide) c _ (dev_f c (k0_dev23_eq c)) rfl rfl rfl rfl) $$ HE HP HA3 HgA HB0
  iintro ⟨HP, HcA⟩
  iapply (wp_go I true 10 3 4 61 62 (by decide) false 11 0 (by decide) c _ (dev_b c (k0_dev24_eq c)) rfl rfl rfl rfl) $$ HE HP HB3 HgB HA0
  iintro ⟨HP, HcB⟩
  iapply (wp_xw I (chunk false 2 c) (col false 3) c rfl (off3_1 c) rfl rfl) $$ Hx
  iintro Hx
  iapply (wp_x I (chunk true 2 c) c rfl (off4_1 c)) $$ Hx
  iintro Hx
  iapply (wp_end c _)
  iapply Hk $$ [] HP HcA HcB Hx
  ipureintro; exact ⟨rfl, rfl⟩

/-- The other product; the sixth finished block is staged once the fourth has left. -/
theorem part37 (c : Dev nD) (v2) (s) (hs : s = scale I c) (v1057) (h1057 : v1057 = k0_pay52 (xch (I.x c) (chunk true 2 c))) (Kt) :
    Env I ⊢ iprop(Opn I c -∗ slot true c 1 (S I true (bw true c) 8) -∗ Pro c 62 -∗ fly c 1 1
      -∗ (∀ u, ⌜u = part I true 3 2 c⌝ -∗ Opn I c -∗ anySlot true c 1 -∗ Pro c 62 -∗ at_ (outC 1 c) 2 -∗ oslot c 1 (outv I c 5) -∗ yblk c 3 (outw I c 3) -∗ Kt u)
      -∗ wp frame (wpE (defs₀ (F := F)) 𝒱₀ (c : Thread nD τ) none) Set.univ (atArgs k0_part37 c v2 s v1057) Kt) := by
  subst hs
  subst h1057
  unfold atArgs
  simp only [k0_part37_eq_skeleton]; unfold k0_part37_skel
  simp only [Prog.lift, Prog.bind_op, Prog.bind_ret, Prog.pure_eq_ret]
  iintro #HE Hx HB1 HP Ho1 Hk
  iapply (wp_w I (col true 3) c rfl rfl) $$ Hx
  iintro Hx
  iapply (wp_xw I (c) (col true 2) c rfl (off5_eq c) rfl rfl) $$ Hx
  iintro Hx
  iapply (wp_load_slot true c 1 (S I true (bw true c) 8) rfl rfl) $$ HB1
  iintro HB1
  ihave HB1 := (slot_any true c 1 _) $$ HB1
  iapply (wp_done I 3 1 1 2 62 (by decide) rfl c rfl rfl) $$ HE HP Ho1
  iintro ⟨HP, Ho1, HO1, HY3⟩
  iapply (wp_stage 1 (outv I c 5) c rfl rfl (out_of I c 5 true 2 8 (by decide) (by decide) (by decide) (by decide))) $$ HO1
  iintro HO1
  iapply (wp_end c _)
  iapply Hk $$ [] Hx HB1 HP Ho1 HO1 HY3
  ipureintro; exact rfl

/-- The sixth finished block is copied out; three waits. -/
theorem part38 (c : Dev nD) (v5 v7) (Kt) :
    Env I ⊢ iprop(oslot c 1 (outv I c 5) -∗ at_ (outC 1 c) 2 -∗ outs c 5 -∗ Pro c 62 -∗ credS c (false, 10) -∗ credS c (true, 10)
      -∗ (fly c 1 2 -∗ outs c 6 -∗ Pro c 65 -∗ anySlot false c 3 -∗ slot false c 4 (S I false (bw false c) 10) -∗ grant true c 11 -∗ anySlot true c 3 -∗ Kt ⟨⟩)
      -∗ wp frame (wpE (defs₀ (F := F)) 𝒱₀ (c : Thread nD τ) none) Set.univ (atArgs k0_part38 v5 v7) Kt) := by
  unfold atArgs
  simp only [k0_part38_eq_skeleton]; unfold k0_part38_skel
  simp only [Prog.lift, Prog.bind_op, Prog.bind_ret, Prog.pure_eq_ret]
  iintro #HE HO1 Ho1 Hu HP HcA HcB Hk
  iapply (wp_emit I 5 1 2 5 6 (by decide) rfl rfl c rfl rfl rfl) $$ HE Hu Ho1 HO1
  iintro ⟨Hu, Ho1⟩
  iapply (wp_left I false 10 3 4 62 63 (by decide) c rfl rfl) $$ HE HP HcA
  iintro ⟨HP, HA3⟩
  iapply (wp_come I false 10 3 4 63 64 (by decide) true 11 0 (by decide) c rfl rfl) $$ HE HP
  iintro ⟨HP, HA4, HgB⟩
  iapply (wp_left I true 10 3 4 64 65 (by decide) c rfl rfl) $$ HE HP HcB
  iintro ⟨HP, HB3⟩
  iapply (wp_end c _)
  iapply Hk $$ Ho1 Hu HP HA3 HA4 HgB HB3

/-- The last wait of the eleventh step; adding up. -/
theorem part39 (c : Dev nD) (v7) (v1052) (h1052 : v1052 = part I false 3 2 c) (v1061) (h1061 : v1061 = part I true 3 2 c) (Kt) :
    Env I ⊢ iprop(Pro c 65 -∗ slot false c 4 (S I false (bw false c) 10)
      -∗ (Pro c 66 -∗ slot true c 4 (S I true c 11) -∗ grant false c 11 -∗ slot false c 4 (S I false c 11) -∗ Kt ⟨⟩)
      -∗ wp frame (wpE (defs₀ (F := F)) 𝒱₀ (c : Thread nD τ) none) Set.univ (atArgs k0_part39 v7 v1052 v1061) Kt) := by
  subst h1052
  subst h1061
  unfold atArgs
  simp only [k0_part39_eq_skeleton]; unfold k0_part39_skel
  simp only [Prog.lift, Prog.bind_op, Prog.bind_ret, Prog.pure_eq_ret]
  iintro #HE HP HA4 Hk
  iapply (wp_come I true 10 3 4 65 66 (by decide) false 11 0 (by decide) c rfl rfl) $$ HE HP
  iintro ⟨HP, HB4, HgA⟩
  iapply (wp_sum false 4 (S I false (bw false c) 10) (S I false c 11) c rfl rfl rfl) $$ HA4
  iintro HA4
  iapply (wp_sum true 4 (S I true (bw true c) 10) (S I true c 11) c rfl rfl rfl) $$ HB4
  iintro HB4
  iapply (wp_end c _)
  iapply Hk $$ HP HB4 HgA HA4

/-- Both sends of the last step; the last two products. -/
theorem part40 (c : Dev nD) (v2 v5) (Kt) :
    Env I ⊢ iprop(slot false c 4 (S I false c 11) -∗ grant false c 11 -∗ Pro c 66 -∗ slot true c 4 (S I true c 11) -∗ grant true c 11 -∗ Opn I c
      -∗ (∀ u v, ⌜u = k0_pay57 (xch (I.x c) c) (wch (I.w c) (col false 3)) ∧ v = k0_pay58 (xch (I.x c) c) (wch (I.w c) (col true 3))⌝ -∗ Pro c 68 -∗ credS c (false, 11) -∗ credS c (true, 11) -∗ Opn I c -∗ Kt ⟨u, v⟩)
      -∗ wp frame (wpE (defs₀ (F := F)) 𝒱₀ (c : Thread nD τ) none) Set.univ (atArgs k0_part40 c v2 v5) Kt) := by
  unfold atArgs
  simp only [k0_part40_eq_skeleton]; unfold k0_part40_skel
  simp only [Prog.lift, Prog.bind_op, Prog.bind_ret, Prog.pure_eq_ret]
  iintro #HE HA4 HgA HP HB4 HgB Hx Hk
  iapply (wp_go_last I false 4 0 66 67 (by decide) c _ (dev_f c (k0_dev25_eq c)) rfl rfl rfl rfl) $$ HE HP HA4 HgA
  iintro ⟨HP, HcA⟩
  iapply (wp_go_last I true 4 0 67 68 (by decide) c _ (dev_b c (k0_dev26_eq c)) rfl rfl rfl rfl) $$ HE HP HB4 HgB
  iintro ⟨HP, HcB⟩
  iapply (wp_xw I (c) (col false 3) c rfl (off5_eq c) rfl rfl) $$ Hx
  iintro Hx
  iapply (wp_xw I (c) (col true 3) c rfl (off5_eq c) rfl rfl) $$ Hx
  iintro Hx
  iapply (wp_end c _)
  iapply Hk $$ [] HP HcA HcB Hx
  ipureintro; exact ⟨rfl, rfl⟩

/-- Three waits of the last step. -/
theorem part41 (c : Dev nD) (v5 v7) (Kt) :
    Env I ⊢ iprop(Pro c 68 -∗ credS c (false, 11) -∗ credS c (true, 11)
      -∗ (Pro c 71 -∗ anySlot false c 4 -∗ slot false c 0 (S I false (bw false c) 11) -∗ anySlot true c 4 -∗ Kt ⟨⟩)
      -∗ wp frame (wpE (defs₀ (F := F)) 𝒱₀ (c : Thread nD τ) none) Set.univ (atArgs k0_part41 v5 v7) Kt) := by
  unfold atArgs
  simp only [k0_part41_eq_skeleton]; unfold k0_part41_skel
  simp only [Prog.lift, Prog.bind_op, Prog.bind_ret, Prog.pure_eq_ret]
  iintro #HE HP HcA HcB Hk
  iapply (wp_left I false 11 4 0 68 69 (by decide) c rfl rfl) $$ HE HP HcA
  iintro ⟨HP, HA4⟩
  iapply (wp_come_last I false 4 0 69 70 (by decide) c rfl rfl) $$ HE HP
  iintro ⟨HP, HA0⟩
  iapply (wp_left I true 11 4 0 70 71 (by decide) c rfl rfl) $$ HE HP HcB
  iintro ⟨HP, HB4⟩
  iapply (wp_end c _)
  iapply Hk $$ HP HA4 HA0 HB4

/-- The last wait; the seventh finished block is copied out; the eighth before scaling. -/
theorem part42 (c : Dev nD) (s) (hs : s = scale I c) (v1162) (h1162 : v1162 = k0_pay57 (xch (I.x c) c) (wch (I.w c) (col false 3))) (v1171) (h1171 : v1171 = k0_pay58 (xch (I.x c) c) (wch (I.w c) (col true 3))) (Kt) :
    Env I ⊢ iprop(Pro c 71 -∗ slot false c 0 (S I false (bw false c) 11) -∗ fly c 0 2 -∗ outs c 6 -∗ fly c 1 2
      -∗ (∀ u, ⌜u = k0_pay60 (k0_pay58 (xch (I.x c) c) (wch (I.w c) (col true 3))) (S I true (bw true c) 11)⌝ -∗ Pro c 72 -∗ anySlot true c 0 -∗ anySlot false c 0 -∗ fly c 0 3 -∗ yblk c 4 (outw I c 4) -∗ outs c 7 -∗ at_ (outC 1 c) 3 -∗ anyO c 1 -∗ yblk c 5 (outw I c 5) -∗ Kt u)
      -∗ wp frame (wpE (defs₀ (F := F)) 𝒱₀ (c : Thread nD τ) none) Set.univ (atArgs k0_part42 s v1162 v1171) Kt) := by
  subst hs
  subst h1162
  subst h1171
  unfold atArgs
  simp only [k0_part42_eq_skeleton]; unfold k0_part42_skel
  simp only [Prog.lift, Prog.bind_op, Prog.bind_ret, Prog.pure_eq_ret]
  iintro #HE HP HA0 Ho0 Hu Ho1 Hk
  iapply (wp_come_last I true 4 0 71 72 (by decide) c rfl rfl) $$ HE HP
  iintro ⟨HP, HB0⟩
  iapply (wp_load_slot false c 0 (S I false (bw false c) 11) rfl rfl) $$ HA0
  iintro HA0
  ihave HA0 := (slot_any false c 0 _) $$ HA0
  iapply (wp_done I 4 0 2 3 72 (by decide) rfl c rfl rfl) $$ HE HP Ho0
  iintro ⟨HP, Ho0, HO0, HY4⟩
  iapply (wp_stage 0 (outv I c 6) c rfl rfl (out_of I c 6 false 3 11 (by decide) (by decide) (by decide) (by decide))) $$ HO0
  iintro HO0
  iapply (wp_emit I 6 0 3 6 7 (by decide) rfl rfl c rfl rfl rfl) $$ HE Hu Ho0 HO0
  iintro ⟨Hu, Ho0⟩
  iapply (wp_load_slot true c 0 (S I true (bw true c) 11) rfl rfl) $$ HB0
  iintro HB0
  ihave HB0 := (slot_any true c 0 _) $$ HB0
  iapply (wp_done I 5 1 2 3 72 (by decide) rfl c rfl rfl) $$ HE HP Ho1
  iintro ⟨HP, Ho1, HO1, HY5⟩
  iapply (wp_end c _)
  iapply Hk $$ [] HP HB0 HA0 Ho0 HY4 Hu Ho1 HO1 HY5
  ipureintro; exact rfl

end Cert.RingProof

end
-- ==== Proof.Chain.lean ====
/-
# The whole kernel on one device

The parts one after the other.
-/
module

public import proofs.«01_k».proof.Proof.Body4

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- One program after another. -/
theorem wp_seq (c : Dev nD) {α β : Type _} (p : Prog (TpuEff nD τ sig (Elt F) Λ₀ .tc) α)
    (k : α → Prog (TpuEff nD τ sig (Elt F) Λ₀ .tc) β) (Q : β → sProp 𝕄) :
    wp frame (wpE (defs₀ (F := F)) 𝒱₀ (c : Thread nD τ) none) Set.univ p
        (fun a => wp frame (wpE (defs₀ (F := F)) 𝒱₀ (c : Thread nD τ) none) Set.univ (k a) Q)
      ⊢ wp frame (wpE (defs₀ (F := F)) 𝒱₀ (c : Thread nD τ) none) Set.univ (p >>= k) Q := by
  rw [wp_bind]

variable (I : Ins F)

/-- The slots, none of them in use. -/
def Slots (c : Dev nD) : sProp 𝕄 :=
  iprop(anySlot false c 0 ∗ anySlot false c 1 ∗ anySlot false c 2 ∗ anySlot false c 3 ∗ anySlot false c 4 ∗ anySlot true c 0 ∗ anySlot true c 1 ∗ anySlot true c 2 ∗ anySlot true c 3 ∗ anySlot true c 4)
/-- The two staging slots of the output, none of them in use, and the rounds their semaphores are at. -/
def Stag (c : Dev nD) (r : ℕ) : sProp 𝕄 :=
  iprop(anyO c 0 ∗ anyO c 1 ∗ at_ (outC 0 c) r ∗ at_ (outC 1 c) r)
/-- The output blocks, finished. -/
def Blocks (c : Dev nD) : sProp 𝕄 :=
  iprop(yblk c 0 (outw I c 0) ∗ yblk c 1 (outw I c 1) ∗ yblk c 2 (outw I c 2) ∗ yblk c 3 (outw I c 3) ∗ yblk c 4 (outw I c 4) ∗ yblk c 5 (outw I c 5) ∗ yblk c 6 (outw I c 6) ∗ yblk c 7 (outw I c 7))

/-- The kernel up to its last store. -/
theorem part43 (c : Dev nD) (Kt) :
    Env I ⊢ iprop(Init c -∗ Slots c -∗ Scl I c -∗ Opn I c -∗ Stag c 0 -∗ outs c 0
      -∗ (at_ (barC c) 1 -∗ Scl I c -∗ Opn I c -∗ Slots c -∗ Pro c 72 -∗ oslot c 1 (outv I c 7) -∗ fly c 0 3 -∗ at_ (outC 1 c) 3 -∗ outs c 7
        -∗ yblk c 0 (outw I c 0) -∗ yblk c 1 (outw I c 1) -∗ yblk c 2 (outw I c 2) -∗ yblk c 3 (outw I c 3) -∗ yblk c 4 (outw I c 4) -∗ yblk c 5 (outw I c 5)
        -∗ Kt ⟨⟩)
      -∗ wp frame (wpE (defs₀ (F := F)) 𝒱₀ (c : Thread nD τ) none) Set.univ (atArgs k0_part43) Kt) := by
  unfold atArgs Slots Stag
  simp only [k0_part43_eq_skeleton]; unfold k0_part43_skel
  iintro #HE Hi ⟨HA0, HA1, HA2, HA3, HA4, HB0, HB1, HB2, HB3, HB4⟩ Hs Hx ⟨HO0, HO1, Ho0, Ho1⟩ Hu Hk
  iapply (wp_seq c _ _ _)
  iapply (part1 I c _) $$ HE Hi HA1 HB1 Hs Hx HA0
  iintro %s %v2 %v5 %v7 %x1 %hs HP Hb HgA HgB Hs Hx HA0
  dsimp only
  iapply (wp_seq c _ _ _)
  iapply (part2 I c _ _ _ _) $$ HE Hx HB0 HA0 HgA HP HB2
  iintro Hx HB0 HP HcA
  dsimp only
  iapply (wp_seq c _ _ _)
  iapply (part3 I c _ _) $$ HE HB0 HgB HP HA2 Hx
  iintro %a3 %b3 %hh HP HcB Hx
  obtain ⟨h3, k3⟩ := hh
  dsimp only
  iapply (wp_seq c _ _ _)
  iapply (part4 I c _ _ _) $$ HE HP HcA HcB
  iintro %a4 %h4 HP HA0 HA1 HgB HB0 HB1 HgA
  dsimp only
  iapply (wp_seq c _ _ _)
  iapply (part5 I c _ _ _ h3 _ k3 _ h4 _) $$ HE HA1 HB1 HgA HP HB3
  iintro HB1 HP HcA
  dsimp only
  iapply (wp_seq c _ _ _)
  iapply (part6 I c _ _) $$ HE HB1 HgB HP HA3 Hx
  iintro %a6 %b6 %hh HP HcB Hx
  obtain ⟨h6, k6⟩ := hh
  dsimp only
  iapply (wp_seq c _ _ _)
  iapply (part7 I c _ _ _) $$ HE HP HcA HcB
  iintro HP HA1 HA2 HgB HB1 HB2 HgA
  dsimp only
  iapply (wp_seq c _ _ _)
  iapply (part8 I c _ _ _ h6 _ k6 _) $$ HE HA2 HB2 HgA HP HB0
  iintro HB2 HP HcA
  dsimp only
  iapply (wp_seq c _ _ _)
  iapply (part9 I c _ _ _) $$ HE HB2 HgB HP HA0 Hx HA4 HB4
  iintro HP HcB Hx HA4 HB4
  dsimp only
  iapply (wp_seq c _ _ _)
  iapply (part10 I c _ _ _) $$ HE HP HcA HcB
  iintro HP HA2 HA3 HgB HB2
  dsimp only
  iapply (wp_seq c _ _ _)
  iapply (part11 I c _ _ _ _) $$ HE HP HA4 HB1 HB4 HgB HA1
  iintro %w1 %w2 %w3 HP HB3 HcA HcB
  dsimp only
  iapply (wp_seq c _ _ _)
  iapply (part12 I c _ _ hs _ _ _ _) $$ HE Hx HA3 HO0
  iintro %a12 %b12 %hh Hx HA3 HO0
  obtain ⟨h12, k12⟩ := hh
  dsimp only
  iapply (wp_seq c _ _ _)
  iapply (part13 I c _ _) $$ HE HO0 Ho0 Hu HP HcA
  iintro Ho0 Hu HP HA4 HA0 HgB
  dsimp only
  iapply (wp_seq c _ _ _)
  iapply (part14 I c _ _ _ h12 _ k12 _) $$ HE HP HcB HA0
  iintro HP HB4 HB0 HgA HA0
  dsimp only
  iapply (wp_seq c _ _ _)
  iapply (part15 I c _ _ _) $$ HE HA0 HgA HP HB2 HB0 HgB HA2 Hx
  iintro %r15 %u15 %q15 %z15 %hh HP HcA HcB Hx
  obtain ⟨h15, k15, l15⟩ := hh
  dsimp only
  iapply (wp_seq c _ _ _)
  iapply (part16 I c _ _ hs _ _ h15 _ k15 _ l15 _) $$ HE Hx HB3 HO1 Ho1 Hu
  iintro %a16 %b16 %hh Hx HB3 Ho1 Hu
  obtain ⟨h16, k16⟩ := hh
  dsimp only
  iapply (wp_seq c _ _ _)
  iapply (part17 I c _ _ _) $$ HE HP HcA HcB
  iintro HP HA0 HA1 HgB HB0
  dsimp only
  iapply (wp_seq c _ _ _)
  iapply (part18 I c _ _ h16 _ k16 _) $$ HE HP HA1 HB4
  iintro HP HB1 HcA
  dsimp only
  iapply (wp_seq c _ _ _)
  iapply (part19 I c _ _ _) $$ HE HB1 HgB HP HA4 Hx HA3 HB3
  iintro %a19 %d19 %h19 HP HcB Hx HA3 HB3
  dsimp only
  iapply (wp_seq c _ _ _)
  iapply (part20 I c _ _ _ h19 _ _) $$ HE HB3 HP HcA HcB
  iintro %w4 HB3 HP HA1 HA2 HgB HB1
  dsimp only
  iapply (wp_seq c _ _ _)
  iapply (part21 I c _ _ _ _ _) $$ HE HP HA3 HB0 HB3 HgB HA0
  iintro %w5 %w6 HP HB2 HcA HcB
  dsimp only
  iapply (wp_seq c _ _ _)
  iapply (part22 I c _ _ _ _) $$ HE Hx HA2
  iintro %a22 %b22 %d22 %hh Hx HA2
  obtain ⟨h22, k22, l22⟩ := hh
  dsimp only
  iapply (wp_seq c _ _ _)
  iapply (part23 I c _ _ hs _ l22 _) $$ HE HP Ho0 Hu HcA
  iintro HP Ho0 HY0 Hu HA3
  dsimp only
  iapply (wp_seq c _ _ _)
  iapply (part24 I c _ _ h22 _) $$ HE HP HcB
  iintro %a24 %h24 HP HA4 HgB HB3 HB4 HgA
  dsimp only
  iapply (wp_seq c _ _ _)
  iapply (part25 I c _ _ _ _ k22 _ h24 _) $$ HE HB4 HA4 HgA HP HB1 HgB HA1
  iintro %w7 %w8 HP HcA HcB
  dsimp only
  iapply (wp_seq c _ _ _)
  iapply (part26 I c _ _ _ _) $$ HE Hx HB2
  iintro %a26 %b26 %d26 %hh Hx HB2
  obtain ⟨h26, k26, l26⟩ := hh
  dsimp only
  iapply (wp_seq c _ _ _)
  iapply (part27 I c _ _ hs _ l26 _) $$ HE HP Ho1 Hu HcA
  iintro HP Ho1 HY1 Hu HA4
  dsimp only
  iapply (wp_seq c _ _ _)
  iapply (part28 I c _ _ h26 _) $$ HE HP HcB
  iintro %a28 %h28 HP HA0 HgB HB4 HB0 HgA
  dsimp only
  iapply (wp_seq c _ _ _)
  iapply (part29 I c _ _ _ k26 _ h28 _) $$ HE HB0 HA0 HgA HP HB3 HgB HA3 Hx
  iintro %a29 %h29 HP HcA HcB Hx
  dsimp only
  iapply (wp_seq c _ _ _)
  iapply (part30 I c _ _ h29 _) $$ HE Hx HA2 HB2 HP HcA
  iintro Hx HA2 HB2 HP HA0
  dsimp only
  iapply (wp_seq c _ _ _)
  iapply (part31 I c _ _ _) $$ HE HP HcB
  iintro HP HA1 HgB HB0 HB1 HgA
  dsimp only
  iapply (wp_seq c _ _ _)
  iapply (part32 I c _ _ _) $$ HE HA2 HgA HP HB4 HB2 HgB HA4 Hx
  iintro %a32 %b32 %hh HP HcA HcB Hx
  obtain ⟨h32, k32⟩ := hh
  dsimp only
  iapply (wp_seq c _ _ _)
  iapply (part33 I c _ _ hs _ k32 _) $$ HE Hx HA1 HP Ho0
  iintro %a33 %h33 Hx HA1 HP Ho0 HO0 HY2
  dsimp only
  iapply (wp_seq c _ _ _)
  iapply (part34 I c _ _ _) $$ HE HO0 Ho0 Hu HP HcA HcB
  iintro %w9 Ho0 Hu HP HA2 HA3 HgB HB2
  dsimp only
  iapply (wp_seq c _ _ _)
  iapply (part35 I c _ _ h32 _ h33 _ _) $$ HE HP HA3
  iintro HP HB3 HgA HA3
  dsimp only
  iapply (wp_seq c _ _ _)
  iapply (part36 I c _ _ _) $$ HE HA3 HgA HP HB0 HB3 HgB HA0 Hx
  iintro %a36 %b36 %hh HP HcA HcB Hx
  obtain ⟨h36, k36⟩ := hh
  dsimp only
  iapply (wp_seq c _ _ _)
  iapply (part37 I c _ _ hs _ k36 _) $$ HE Hx HB1 HP Ho1
  iintro %a37 %h37 Hx HB1 HP Ho1 HO1 HY3
  dsimp only
  iapply (wp_seq c _ _ _)
  iapply (part38 I c _ _ _) $$ HE HO1 Ho1 Hu HP HcA HcB
  iintro Ho1 Hu HP HA3 HA4 HgB HB3
  dsimp only
  iapply (wp_seq c _ _ _)
  iapply (part39 I c _ _ h36 _ h37 _) $$ HE HP HA4
  iintro HP HB4 HgA HA4
  dsimp only
  iapply (wp_seq c _ _ _)
  iapply (part40 I c _ _ _) $$ HE HA4 HgA HP HB4 HgB Hx
  iintro %a40 %b40 %hh HP HcA HcB Hx
  obtain ⟨h40, k40⟩ := hh
  dsimp only
  iapply (wp_seq c _ _ _)
  iapply (part41 I c _ _ _) $$ HE HP HcA HcB
  iintro HP HA4 HA0 HB4
  dsimp only
  iapply (wp_seq c _ _ _)
  iapply (part42 I c _ hs _ h40 _ k40 _) $$ HE HP HA0 Ho0 Hu Ho1
  iintro %a42 %h42 HP HB0 HA0 Ho0 HY4 Hu Ho1 HO1 HY5
  dsimp only
  simp only [Prog.lift, Prog.bind_op, Prog.bind_ret, Prog.pure_eq_ret]
  subst hs; subst h42
  iapply (wp_stage 1 (outv I c 7) c rfl rfl (out_of I c 7 true 3 11 (by decide) (by decide) (by decide) (by decide))) $$ HO1
  iintro HO1
  iapply (wp_end c _)
  iapply Hk $$ Hb Hs Hx [HA0 HA1 HA2 HA3 HA4 HB0 HB1 HB2 HB3 HB4] HP HO1 Ho0 Ho1 Hu HY0 HY1 HY2 HY3 HY4 HY5
  isplitl [HA0]; · iexact HA0
  isplitl [HA1]; · iexact HA1
  isplitl [HA2]; · iexact HA2
  isplitl [HA3]; · iexact HA3
  isplitl [HA4]; · iexact HA4
  isplitl [HB0]; · iexact HB0
  isplitl [HB1]; · iexact HB1
  isplitl [HB2]; · iexact HB2
  isplitl [HB3]; · iexact HB3
  iexact HB4

/-- The whole kernel on one device: it ends with its slots free, its books done and its output blocks finished. -/
theorem body_run (c : Dev nD) (Kt) :
    Env I ⊢ iprop(Init c -∗ Slots c -∗ Scl I c -∗ Opn I c -∗ Stag c 0 -∗ outs c 0
      -∗ (at_ (barC c) 1 -∗ Scl I c -∗ Opn I c -∗ Slots c -∗ Pro c 72 -∗ Stag c 4 -∗ Blocks I c -∗ Kt ⟨⟩)
      -∗ wp frame (wpE (defs₀ (F := F)) 𝒱₀ (c : Thread nD τ) none) Set.univ (atArgs cc0_body) Kt) := by
  unfold atArgs
  simp only [cc0_body_eq_skeleton]; unfold cc0_body_skel
  iintro #HE Hi Hsl Hs Hx Hst Hu Hk
  iapply (wp_seq c _ _ _)
  iapply (part43 I c _) $$ HE Hi Hsl Hs Hx Hst Hu
  iintro Hb Hs Hx Hsl HP HO1 Ho0 Ho1 Hu HY0 HY1 HY2 HY3 HY4 HY5
  simp only [Prog.lift, Prog.bind_op, Prog.bind_ret, Prog.pure_eq_ret]
  iapply (wp_emit I 7 1 3 7 8 (by decide) rfl rfl c rfl rfl rfl) $$ HE Hu Ho1 HO1
  iintro ⟨Hu, Ho1⟩
  iapply (wp_done I 6 0 3 4 72 (by decide) rfl c rfl rfl) $$ HE HP Ho0
  iintro ⟨HP, Ho0, HO0, HY6⟩
  iapply (wp_done I 7 1 3 4 72 (by decide) rfl c rfl rfl) $$ HE HP Ho1
  iintro ⟨HP, Ho1, HO1, HY7⟩
  iapply (wp_end c _)
  iapply Hk $$ Hb Hs Hx Hsl HP [HO0 HO1 Ho0 Ho1] [HY0 HY1 HY2 HY3 HY4 HY5 HY6 HY7]
  · unfold Stag
    isplitl [HO0]; · iexact HO0
    isplitl [HO1]; · iexact HO1
    isplitl [Ho0]; · iexact Ho0
    iexact Ho1
  · unfold Blocks
    isplitl [HY0]; · iexact HY0
    isplitl [HY1]; · iexact HY1
    isplitl [HY2]; · iexact HY2
    isplitl [HY3]; · iexact HY3
    isplitl [HY4]; · iexact HY4
    isplitl [HY5]; · iexact HY5
    isplitl [HY6]; · iexact HY6
    iexact HY7

end Cert.RingProof

end
-- ==== Proof.Split.lean ====
/-
# Buffers held piece by piece

The scratch buffers are handed over whole and used slot by slot; the output array is handed over whole, filled column
block by column block, and read whole in the end.
-/
module

public import proofs.«01_k».proof.Proof.Chain
public import Idealize.ShloMosaic.Lib.Ring

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Ring (lead_disjoint lead_cover pointsTo_blocks pointsTo_blocks_join_exists)

variable {F : FTy → Type} [FloatOps F]

local notation "𝕄" => MT nD τ sig ℕ (Elt F) ℕ UU ℕ

/-! ## The pieces are disjoint and cover their buffers -/

theorem set_c0 (k : Fin 5) : (cS false k).view.set = (r5 k).set :=
  (set_cS false k).trans (View.set_slice_whole cc0_scratch0 (r5 k))
theorem set_c1 (k : Fin 5) : (cS true k).view.set = (r5 k).set :=
  (set_cS true k).trans (View.set_slice_whole cc0_scratch1 (r5 k))
theorem set_o (j : Fin 2) : (oS j).view.set = (r2 j).set :=
  (set_oS j).trans (View.set_slice_whole cc0_scratch2 (r2 j))
theorem set_y (n : Fin 8) : (yS n).view.set = (rY n).set := View.set_slice_whole _ _

theorem disj_c (k k' : Fin 5) (h : k ≠ k') : Disjoint (r5 k).set (r5 k').set :=
  lead_disjoint (s := S5x1024x1024) (NB := 5) 0 1 (fun k => ![k.val, 0, 0]) S1x1024x1024.size inb5 (by decide) (by decide) k k' h
theorem cover_c : Finset.univ.biUnion (fun k : Fin 5 => (r5 k).set) = Finset.univ :=
  lead_cover (s := S5x1024x1024) (NB := 5) 0 1 (fun k => ![k.val, 0, 0]) S1x1024x1024.size inb5
    (by decide) (by decide) (by decide) (by decide) (by decide)
theorem disj_o (k k' : Fin 2) (h : k ≠ k') : Disjoint (r2 k).set (r2 k').set :=
  lead_disjoint (s := S2x1024x1024) (NB := 2) 0 1 (fun k => ![k.val, 0, 0]) S1x1024x1024.size inb2 (by decide) (by decide) k k' h
theorem cover_o : Finset.univ.biUnion (fun k : Fin 2 => (r2 k).set) = Finset.univ :=
  lead_cover (s := S2x1024x1024) (NB := 2) 0 1 (fun k => ![k.val, 0, 0]) S1x1024x1024.size inb2
    (by decide) (by decide) (by decide) (by decide) (by decide)
theorem disj_y (k k' : Fin 8) (h : k ≠ k') : Disjoint (rY k).set (rY k').set :=
  lead_disjoint (s := S1024x8192) (NB := 8) 1 1024 (fun k => ![0, 1024 * k.val]) S1024x1024.size inbY (by decide) (by decide) k k' h
theorem cover_y : Finset.univ.biUnion (fun k : Fin 8 => (rY k).set) = Finset.univ :=
  lead_cover (s := S1024x8192) (NB := 8) 1 1024 (fun k => ![0, 1024 * k.val]) S1024x1024.size inbY
    (by decide) (by decide) (by decide) (by decide) (by decide)

/-! ## Taking the buffers apart, and putting them together -/

omit [FloatOps F] in
theorem fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem fin2 (Φ : Fin 2 → sProp 𝕄) : bigSep Finset.univ Φ = iprop(Φ 0 ∗ Φ 1) :=
  bigSep_univ_eq_bigSepL [0, 1] (by decide) (by decide) Φ
omit [FloatOps F] in
theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A whole buffer, at some contents. -/
def anyB (c : Dev nD) (r : Ref sig .tc) : sProp 𝕄 :=
  iprop(∃ f : Buf (Elt F) ((c : Thread nD τ).loc r), ((c : Thread nD τ).loc r) ↦{fullShare} f)

omit [FloatOps F] in
/-- A buffer whole is its pieces, each at some contents; -/
theorem cut {ℓ : Loc nD τ sig} {B : Type} [Fintype B] [DecidableEq B] (J : B → Finset (Idx ℓ))
    (hd : ∀ b b', b ≠ b' → Disjoint (J b) (J b')) (hc : Finset.univ.biUnion J = Finset.univ) :
    (iprop(∃ f : Buf (Elt F) ℓ, ℓ ↦{fullShare} f) : sProp 𝕄) ⊢ bigSep Finset.univ fun b => iprop(∃ f : Buf (Elt F) ℓ, ℓ ↦[J b]{fullShare} f) := by
  iintro ⟨%f, H⟩
  ihave H := (Entails.of_eq (pointsTo_blocks (Ix := ℕ) (Name := ℕ) (U := UU) (Lvl := ℕ) J hd hc f)) $$ H
  have h (b : B) : (ℓ ↦[J b]{fullShare} f : sProp 𝕄) ⊢ iprop(∃ f : Buf (Elt F) ℓ, ℓ ↦[J b]{fullShare} f) := by
    iintro H; iexists f; iexact H
  iapply (show (bigSep Finset.univ fun b => (ℓ ↦[J b]{fullShare} f : sProp 𝕄)) ⊢ bigSep Finset.univ fun b => iprop(∃ f : Buf (Elt F) ℓ, ℓ ↦[J b]{fullShare} f)
    from bigSep_mono fun b _ => h b)
  iexact H

omit [FloatOps F] in
theorem slot0_as (c : Dev nD) (k : Fin 5) : anySlot (F := F) false c k
    = iprop(∃ f : Buf (Elt F) ((c : Thread nD τ).loc cc0_scratch0), ((c : Thread nD τ).loc cc0_scratch0) ↦[(r5 k).set]{fullShare} f) := by
  unfold anySlot; rw [set_c0]; rfl
omit [FloatOps F] in
theorem slot1_as (c : Dev nD) (k : Fin 5) : anySlot (F := F) true c k
    = iprop(∃ f : Buf (Elt F) ((c : Thread nD τ).loc cc0_scratch1), ((c : Thread nD τ).loc cc0_scratch1) ↦[(r5 k).set]{fullShare} f) := by
  unfold anySlot; rw [set_c1]; rfl

omit [FloatOps F] in
theorem slots_is (c : Dev nD) : iprop((bigSep Finset.univ fun k : Fin 5 => anySlot (F := F) false c k) ∗ bigSep Finset.univ fun k : Fin 5 => anySlot true c k) ⊢ Slots c := by
  unfold Slots
  rw [fin5, fin5]
  iintro ⟨⟨H0, H1, H2, H3, H4⟩, H⟩
  isplitl [H0]; · iexact H0
  isplitl [H1]; · iexact H1
  isplitl [H2]; · iexact H2
  isplitl [H3]; · iexact H3
  isplitl [H4]; · iexact H4
  iexact H
omit [FloatOps F] in
theorem is_slots (c : Dev nD) : Slots c ⊢ iprop((bigSep Finset.univ fun k : Fin 5 => anySlot (F := F) false c k) ∗ bigSep Finset.univ fun k : Fin 5 => anySlot true c k) := by
  unfold Slots
  rw [fin5, fin5]
  iintro ⟨H0, H1, H2, H3, H4, H⟩
  isplitr [H]
  · isplitl [H0]; · iexact H0
    isplitl [H1]; · iexact H1
    isplitl [H2]; · iexact H2
    isplitl [H3]; · iexact H3
    iexact H4
  iexact H

omit [FloatOps F] in
theorem cut_comm (c : Dev nD) : iprop(anyB (F := F) c cc0_scratch0 ∗ anyB c cc0_scratch1) ⊢ Slots c := by
  refine BIBase.Entails.trans ?_ (slots_is c)
  refine BIClass.sep_mono ?_ ?_
  · rw [bigSep_congr (Φ := fun k => anySlot false c k) fun k _ => slot0_as c k]
    exact cut (ℓ := (c : Thread nD τ).loc cc0_scratch0) (fun k : Fin 5 => (r5 k).set) disj_c cover_c
  · rw [bigSep_congr (Φ := fun k => anySlot true c k) fun k _ => slot1_as c k]
    exact cut (ℓ := (c : Thread nD τ).loc cc0_scratch1) (fun k : Fin 5 => (r5 k).set) disj_c cover_c

variable [∀ e, Nonempty (Elt F e)]

omit [FloatOps F] in
theorem join_comm (c : Dev nD) : Slots c ⊢ iprop(anyB (F := F) c cc0_scratch0 ∗ anyB c cc0_scratch1) := by
  refine (is_slots c).trans ?_
  refine BIClass.sep_mono ?_ ?_
  · rw [bigSep_congr (Φ := fun k => anySlot false c k) fun k _ => slot0_as c k]
    exact pointsTo_blocks_join_exists (ℓ := (c : Thread nD τ).loc cc0_scratch0) (fun k : Fin 5 => (r5 k).set) disj_c cover_c (fun _ => Classical.arbitrary _)
  · rw [bigSep_congr (Φ := fun k => anySlot true c k) fun k _ => slot1_as c k]
    exact pointsTo_blocks_join_exists (ℓ := (c : Thread nD τ).loc cc0_scratch1) (fun k : Fin 5 => (r5 k).set) disj_c cover_c (fun _ => Classical.arbitrary _)

omit [FloatOps F] [∀ e, Nonempty (Elt F e)] in
theorem anyO_as (c : Dev nD) (j : Fin 2) : anyO (F := F) c j
    = iprop(∃ f : Buf (Elt F) ((c : Thread nD τ).loc cc0_scratch2), ((c : Thread nD τ).loc cc0_scratch2) ↦[(r2 j).set]{fullShare} f) := by
  unfold anyO oslot
  rw [set_o]
  have h₁ : (iprop(∃ v, ∃ f : Buf (Elt F) ((oM).view.loc (c : Thread nD τ)), ⌜(oM).view.readAt (Elt F) (r2 j).toLoadRect f = v⌝
      ∗ ((oS j).view.loc (c : Thread nD τ) ↦[(r2 j).set]{fullShare} f)) : sProp 𝕄)
      ⊢ iprop(∃ f : Buf (Elt F) ((c : Thread nD τ).loc cc0_scratch2), ((c : Thread nD τ).loc cc0_scratch2) ↦[(r2 j).set]{fullShare} f) := by
    iintro ⟨%v, %f, -, H⟩; iexists f; iexact H
  have h₂ : (iprop(∃ f : Buf (Elt F) ((c : Thread nD τ).loc cc0_scratch2), ((c : Thread nD τ).loc cc0_scratch2) ↦[(r2 j).set]{fullShare} f) : sProp 𝕄)
      ⊢ iprop(∃ v, ∃ f : Buf (Elt F) ((oM).view.loc (c : Thread nD τ)), ⌜(oM).view.readAt (Elt F) (r2 j).toLoadRect f = v⌝
      ∗ ((oS j).view.loc (c : Thread nD τ) ↦[(r2 j).set]{fullShare} f)) := by
    iintro ⟨%f, H⟩; iexists _; iexists f; isplitr
    · ipureintro; rfl
    iexact H
  exact BI.equiv_iff.mp ⟨h₁, h₂⟩

omit [FloatOps F] [∀ e, Nonempty (Elt F e)] in
theorem cut_o (c : Dev nD) : anyB (F := F) c cc0_scratch2 ⊢ iprop(anyO c 0 ∗ anyO c 1) := by
  rw [← fin2 (fun j => anyO c j), bigSep_congr fun j _ => anyO_as c j]
  exact cut (ℓ := (c : Thread nD τ).loc cc0_scratch2) (fun j : Fin 2 => (r2 j).set) disj_o cover_o
omit [FloatOps F] in
theorem join_o (c : Dev nD) : iprop(anyO c 0 ∗ anyO c 1) ⊢ anyB (F := F) c cc0_scratch2 := by
  rw [← fin2 (fun j => anyO c j), bigSep_congr fun j _ => anyO_as c j]
  exact pointsTo_blocks_join_exists (ℓ := (c : Thread nD τ).loc cc0_scratch2) (fun j : Fin 2 => (r2 j).set) disj_o cover_o (fun _ => Classical.arbitrary _)

omit [FloatOps F] [∀ e, Nonempty (Elt F e)] in
/-- The output array, taken apart at some contents of each column block; -/
theorem cut_y (c : Dev nD) : anyB (F := F) c main_v1 ⊢ bigSep Finset.univ fun n : Fin 8 => iprop(∃ w, yblk c n w) := by
  have h (n : Fin 8) : (iprop(∃ f : Buf (Elt F) ((c : Thread nD τ).loc main_v1), ((c : Thread nD τ).loc main_v1) ↦[(rY n).set]{fullShare} f) : sProp 𝕄) ⊢ iprop(∃ w, yblk c n w) := by
    unfold yblk
    rw [set_y]
    iintro ⟨%f, H⟩; iexists _; iexists f; isplitr
    · ipureintro; rfl
    iexact H
  exact (cut (ℓ := (c : Thread nD τ).loc main_v1) (fun n : Fin 8 => (rY n).set) disj_y cover_y).trans (bigSep_mono fun n _ => h n)

/-- and put together: whole, with every column block reading what it held. -/
theorem join_y (c : Dev nD) (w : Fin 8 → Vec F S1024x1024 .f32) :
    (bigSep Finset.univ fun n : Fin 8 => yblk c n (w n))
      ⊢ iprop(∃ f : Buf (Elt F) ((c : Thread nD τ).loc main_v1), ⌜∀ n, (yS n).view.read (Elt F) f = w n⌝ ∗ ((c : Thread nD τ).loc main_v1) ↦{fullShare} f) := by
  unfold yblk
  iintro H
  ihave H := (BI.bigSep_exists_pi Finset.univ (fun (n : Fin 8) (f : Buf (Elt F) ((yM).view.loc (c : Thread nD τ))) =>
    (iprop(⌜(yS n).view.read (Elt F) f = w n⌝ ∗ ((yS n).view.loc (c : Thread nD τ) ↦[(yS n).view.set]{fullShare} f)) : sProp 𝕄))) $$ H
  icases H with ⟨%fs, H⟩
  ihave H := (Entails.of_eq (bigSep_sep' _ _ _)) $$ H
  icases H with ⟨Hp, H⟩
  ihave %hp := (show (bigSep Finset.univ fun n : Fin 8 => (iprop(⌜(yS n).view.read (Elt F) (fs n) = w n⌝) : sProp 𝕄)) ⊢ iprop(⌜∀ n, (yS n).view.read (Elt F) (fs n) = w n⌝) from by
    rw [fin8]
    iintro ⟨%h0, %h1, %h2, %h3, %h4, %h5, %h6, %h7⟩
    ipureintro
    exact fun | 0 => h0 | 1 => h1 | 2 => h2 | 3 => h3 | 4 => h4 | 5 => h5 | 6 => h6 | 7 => h7) $$ Hp
  ihave H := (pointsTo_biUnion_join (ℓ := (c : Thread nD τ).loc main_v1) Finset.univ (fun n : Fin 8 => (yS n).view.set) fs (fun _ => Classical.arbitrary _)
    (fun n _ n' _ h => by rw [set_y, set_y]; exact disj_y n n' h)) $$ H
  icases H with ⟨%g, %hg, H⟩
  iexists g
  isplitr
  · ipureintro; intro n
    rw [← hp n]
    exact View.read_congr_of_subset _ (yS n).view.set subset_rfl (hg n (Finset.mem_univ n))
  rw [show Finset.univ.biUnion (fun n : Fin 8 => (yS n).view.set) = Finset.univ from (congrArg (Finset.univ.biUnion) (funext set_y)).trans cover_y]
  iexact H

end Cert.RingProof

end
-- ==== Proof.Deal.lean ====
/-
# What each device is dealt at the start, and gives back at the end

The semaphores' invariants are made for all devices together; the tokens for signalling a neighbour's semaphore are
dealt round the ring, each to the device that will use it.
-/
module

public import proofs.«01_k».proof.Proof.Split

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Semaphores and tokens, listed -/

abbrev Ks : Type := (Bool × Fin 5) ⊕ (Bool × Fin 5) ⊕ Fin 2
/-- The kernel's own semaphores; -/
def osem : Ks → SemLoc sig
  | .inl x => .dma (sS x.1 x.2)
  | .inr (.inl x) => .dma (sR x.1 x.2)
  | .inr (.inr j) => .dma (sO j)
abbrev Kc : Type := Ks ⊕ Unit
/-- these and the handshake's. -/
def ksem : Kc → SemLoc sig
  | .inl k => osem k
  | .inr _ => .reg barS
theorem ksem_inj : Function.Injective ksem := by decide
theorem ownSemFacts : Pipeline.OwnSemFacts cfg0.spec osem := by decide

abbrev kcell (x : Dev nD × Kc) : GSem nD τ sig := ((x.1 : Thread nD τ), ksem x.2)
theorem kcell_inj : Function.Injective kcell := by
  rintro ⟨c, k⟩ ⟨c', k'⟩ h
  have h1 : c = c' := congrArg (fun g : GSem nD τ sig => g.1.1) h
  have h2 : k = k' := ksem_inj (congrArg (fun g : GSem nD τ sig => g.2) h)
  rw [h1, h2]
def ringCells : Finset (GSem nD τ sig) := Finset.univ.map ⟨kcell, kcell_inj⟩

abbrev Tk : Type := BT ⊕ BT ⊕ Fin 8 ⊕ Bool
/-- The uses of a device's semaphores: its sends, the arrivals, its output copies, the two handshake signals. -/
def tk : Tk → SemLoc sig × ℕ × Bool
  | .inl i => (.dma (sS i.1 (ks i.2)), rs i.2, false)
  | .inr (.inl i) => (.dma (sR i.1 (kr i.2)), rr i.2, false)
  | .inr (.inr (.inl n)) => (.dma (sO (jOf n)), n.val / 2, false)
  | .inr (.inr (.inr d)) => (.reg barS, 0, d)
theorem tk_inj : Function.Injective tk := by decide
abbrev tok (x : Dev nD × Tk) : GSem nD τ sig × ℕ × Bool := (((x.1 : Thread nD τ), (tk x.2).1), (tk x.2).2.1, (tk x.2).2.2)
theorem tok_inj : Function.Injective tok := by
  rintro ⟨c, k⟩ ⟨c', k'⟩ h
  have h1 : c = c' := congrArg (fun g : GSem nD τ sig × ℕ × Bool => g.1.1.1) h
  have h2 : k = k' := tk_inj (congrArg (fun g : GSem nD τ sig × ℕ × Bool => (g.1.2, g.2.1, g.2.2)) h)
  rw [h1, h2]
def ringToks : Finset (GSem nD τ sig × ℕ × Bool) := Finset.univ.map ⟨tok, tok_inj⟩

def u₀ : UU :=
  (initOf (Pipeline.cells cfgs cellOf_inj) (Pipeline.launchToks cfgs cellOf_inj), initOf ringCells ringToks)

variable (I : Ins F)

def toks (c : Dev nD) : sProp 𝕄 := bigSep Finset.univ fun k : Tk => dutyTok ER ((c : Thread nD τ), (tk k).1) (tk k).2.1 (tk k).2.2

/-- What the launch element holds for device `c`. -/
def G (c : Dev nD) : sProp 𝕄 :=
  iprop((bigSep Finset.univ fun k : Kc => roundState ER (Rd I) (kcell (c, k)) 0)
    ∗ (bigSep Finset.univ fun k : Kc => at_ (kcell (c, k)) 0) ∗ toks c)

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : Kc => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd I) ringCells ringToks) $$ HX with ⟨Hst, Hr, Hat, Htok⟩
  imodintro
  ihave Hst := (Entails.of_eq (hX fun g => roundState ER (Rd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G at_; simp only [bigSep_sep']
  isplitl [Hst]; · iexact Hst
  isplitl [Hat Hr]
  · isplitl [Hat] <;> iassumption
  iexact Htok

omit [FloatOps F] in
theorem kc_split (Φ : Kc → sProp 𝕄) : bigSep Finset.univ Φ = iprop(((bigSep Finset.univ fun x : Bool × Fin 5 => Φ (.inl (.inl x)))
    ∗ (bigSep Finset.univ fun x : Bool × Fin 5 => Φ (.inl (.inr (.inl x)))) ∗ (bigSep Finset.univ fun j : Fin 2 => Φ (.inl (.inr (.inr j))))) ∗ Φ (.inr ())) := by
  rw [bigSep_univ_sum, bigSep_univ_sum, bigSep_univ_sum, bigSep_univ_of_subsingleton ()]
  rfl

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

abbrev ownSems (c : Dev nD) : sProp 𝕄 := Pipeline.ownSems0 (Ix := ℕ) (Name := ℕ) (U := UU) (Lvl := ℕ) (Val := Elt F) (τ := τ) osem c

omit [FloatOps F] in
theorem sems0_eq (c : Dev nD) :
    iprop(ownSems (F := F) c ∗ unscopedSems0 c) = (bigSep Finset.univ fun k : Kc => semVal (kcell (c, k)) 0 : sProp 𝕄) := by
  rw [unscopedSems0_eq, bigSep_univ_sum, bigSep_univ_of_subsingleton ()]
  rfl

/-- A device's semaphores become invariants. -/
theorem core_alloc (c : Dev nD) :
    iprop(ownSems (F := F) c ∗ unscopedSems0 c ∗ G I c)
      ⊢ |={Set.univ}=> iprop((bigSep Finset.univ fun k => iprop(∃ κ : ℕ, cellInv ER (Rd I) κ (kcell (c, k))))
          ∗ (bigSep Finset.univ fun k => at_ (kcell (c, k)) 0) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : Kc => semVal (kcell (c, k)) 0) ∗ bigSep Finset.univ fun k : Kc => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing -/

/-- The semaphores' invariants, and that every semaphore is at its start at least. -/
def Invs : sProp 𝕄 :=
  iprop((bigSep Finset.univ fun x : Dev nD × Bool × Fin 5 => iprop(∃ κ, cellInv ER (Rd I) κ (sendC x.2.1 x.2.2 x.1)))
    ∗ (bigSep Finset.univ fun x : Dev nD × Bool × Fin 5 => iprop(∃ κ, cellInv ER (Rd I) κ (recvC x.2.1 x.2.2 x.1)))
    ∗ (bigSep Finset.univ fun x : Dev nD × Fin 2 => iprop(∃ κ, cellInv ER (Rd I) κ (outC x.2 x.1)))
    ∗ (bigSep Finset.univ fun x : Dev nD => iprop(∃ κ, cellInv ER (Rd I) κ (barC x))))
def Reached : sProp 𝕄 := bigSep Finset.univ fun x : Dev nD × Kc => reached ER (kcell x) 0
instance invs_persistent : BI.Persistent (Invs I) := by unfold Invs; infer_instance
instance reached_persistent : BI.Persistent (Reached (F := F)) := by unfold Reached; infer_instance
theorem env_intro : iprop(levAts L lv ∗ Invs I) ⊢ Env I := by unfold Env Invs; iintro H; iexact H

omit [FloatOps F] in
theorem reached_at (x : Dev nD × Kc) : Reached (F := F) ⊢ reached ER (kcell x) 0 := by
  unfold Reached; exact bigSep_elim (Finset.mem_univ x)

theorem invs_of : (bigSep Finset.univ fun c : Dev nD => bigSep Finset.univ fun k => iprop(∃ κ : ℕ, cellInv ER (Rd I) κ (kcell (c, k)))) ⊢ Invs I := by
  rw [bigSep_congr (s := Finset.univ) fun (c : Dev nD) _ => kc_split fun k => iprop(∃ κ : ℕ, cellInv ER (Rd I) κ (kcell (c, k))),
    bigSep_sep', bigSep_sep', bigSep_sep',
    ← bigSep_univ_prod (fun x : Dev nD × Bool × Fin 5 => iprop(∃ κ : ℕ, cellInv ER (Rd I) κ (kcell (x.1, .inl (.inl x.2))))),
    ← bigSep_univ_prod (fun x : Dev nD × Bool × Fin 5 => iprop(∃ κ : ℕ, cellInv ER (Rd I) κ (kcell (x.1, .inl (.inr (.inl x.2)))))),
    ← bigSep_univ_prod (fun x : Dev nD × Fin 2 => iprop(∃ κ : ℕ, cellInv ER (Rd I) κ (kcell (x.1, .inl (.inr (.inr x.2))))))]
  unfold Invs
  iintro ⟨⟨H1, H2, H3⟩, H4⟩
  isplitl [H1]; · iexact H1
  isplitl [H2]; · iexact H2
  isplitl [H3]; · iexact H3
  iexact H4

omit [FloatOps F] in
theorem reached_of : (bigSep Finset.univ fun c : Dev nD => bigSep Finset.univ fun k : Kc => at_ (F := F) (kcell (c, k)) 0)
    ⊢ iprop(Reached ∗ bigSep Finset.univ fun c : Dev nD => bigSep Finset.univ fun k : Kc => at_ (kcell (c, k)) 0) := by
  unfold Reached
  rw [← bigSep_univ_prod (fun x : Dev nD × Kc => at_ (F := F) (kcell x) 0), ← bigSep_sep']
  have h (x : Dev nD × Kc) : at_ (F := F) (kcell x) 0 ⊢ iprop(reached ER (kcell x) 0 ∗ at_ (kcell x) 0) := by
    unfold at_
    iintro ⟨Ha, #Hr⟩
    isplitr; · iexact Hr
    isplitl; · iexact Ha
    iexact Hr
  exact bigSep_mono fun x _ => h x

/-- One step round the ring. -/
def ringE (b : Bool) : Dev nD ≃ Dev nD := ⟨fw b, bw b, bw_fw b, fw_bw b⟩

/-- The tokens of the signals device `c` will give. -/
def payToks (c : Dev nD) : sProp 𝕄 :=
  iprop((bigSep Finset.univ fun i : BT => tokS c i) ∗ (bigSep Finset.univ fun i : BT => tokR c i)
    ∗ (bigSep Finset.univ fun n : Fin 8 => dutyTok ER (outC (jOf n) c) (n.val / 2) false)
    ∗ bigSep Finset.univ fun d : Bool => dutyTok ER (barC (bw d c)) 0 d)

omit [FloatOps F] in
theorem toks_around : (bigSep Finset.univ fun c : Dev nD => (toks c : sProp 𝕄)) ⊢ bigSep Finset.univ fun c : Dev nD => payToks c := by
  have hR : (bigSep Finset.univ fun c : Dev nD => bigSep Finset.univ fun i : BT => (dutyTok ER (recvC i.1 (kr i.2) c) (rr i.2) false : sProp 𝕄))
      = bigSep Finset.univ fun c : Dev nD => bigSep Finset.univ fun i : BT => tokR c i := by
    rw [bigSep_univ_comm, bigSep_univ_comm (fun (c : Dev nD) (i : BT) => (tokR c i : sProp 𝕄))]
    exact bigSep_congr fun i _ => bigSep_univ_equiv (ringE i.1) fun c : Dev nD => (dutyTok ER (recvC i.1 (kr i.2) c) (rr i.2) false : sProp 𝕄)
  have hB : (bigSep Finset.univ fun c : Dev nD => bigSep Finset.univ fun d : Bool => (dutyTok ER (barC c) 0 d : sProp 𝕄))
      = bigSep Finset.univ fun c : Dev nD => bigSep Finset.univ fun d : Bool => dutyTok ER (barC (bw d c)) 0 d := by
    rw [bigSep_univ_comm, bigSep_univ_comm (fun (c : Dev nD) (d : Bool) => (dutyTok ER (barC (bw d c)) 0 d : sProp 𝕄))]
    exact bigSep_congr fun d _ => bigSep_univ_equiv (ringE d).symm fun c : Dev nD => (dutyTok ER (barC c) 0 d : sProp 𝕄)
  unfold payToks
  rw [bigSep_sep', bigSep_sep', bigSep_sep', ← hR, ← hB, ← bigSep_sep', ← bigSep_sep', ← bigSep_sep']
  have h (c : Dev nD) : (toks c : sProp 𝕄) ⊢ iprop((bigSep Finset.univ fun i : BT => tokS c i)
      ∗ (bigSep Finset.univ fun i : BT => dutyTok ER (recvC i.1 (kr i.2) c) (rr i.2) false)
      ∗ (bigSep Finset.univ fun n : Fin 8 => dutyTok ER (outC (jOf n) c) (n.val / 2) false)
      ∗ bigSep Finset.univ fun d : Bool => dutyTok ER (barC c) 0 d) := by
    unfold toks
    rw [bigSep_univ_sum, bigSep_univ_sum, bigSep_univ_sum]
    exact Entails.of_eq rfl
  exact bigSep_mono fun c _ => h c

/-- What device `c` starts from. -/
def G' (c : Dev nD) : sProp 𝕄 :=
  iprop((Invs I ∗ Reached) ∗ (bigSep Finset.univ fun k : Kc => at_ (kcell (c, k)) 0) ∗ payToks c)

omit [FloatOps F] in
theorem bigSep_with {A : Type} [DecidableEq A] {S : Finset A} {R : sProp 𝕄} [BI.Persistent R] {Φ : A → sProp 𝕄} :
    iprop(R ∗ bigSep S Φ) ⊢ bigSep S fun i => iprop(R ∗ Φ i) :=
  (sep_mono_left (BI.bigSep_of_persistent S R)).trans (by rw [← bigSep_sep'])

theorem regroup :
    (bigSep Finset.univ fun c : Dev nD => iprop((bigSep Finset.univ fun k => iprop(∃ κ : ℕ, cellInv ER (Rd I) κ (kcell (c, k))))
          ∗ (bigSep Finset.univ fun k => at_ (kcell (c, k)) 0) ∗ toks c) : sProp 𝕄)
      ⊢ bigSep Finset.univ (G' I) := by
  rw [bigSep_sep', bigSep_sep']
  iintro ⟨HI, Hat, Htok⟩
  ihave #HI := (invs_of I) $$ HI
  ihave H := (reached_of (F := F)) $$ Hat
  icases H with ⟨#HR, Hat⟩
  ihave Htok := (toks_around (F := F)) $$ Htok
  iapply (show iprop((Invs I ∗ Reached) ∗ bigSep Finset.univ fun c : Dev nD => iprop((bigSep Finset.univ fun k : Kc => at_ (F := F) (kcell (c, k)) 0) ∗ payToks c))
    ⊢ bigSep Finset.univ (G' I) from bigSep_with)
  isplitr
  · isplitl; · iexact HI
    iexact HR
  rw [bigSep_sep']
  isplitl [Hat] <;> iassumption

/-- The global step. -/
theorem glob : (bigSep Finset.univ fun c => iprop(ownSems (F := F) c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

/-- What device `c` owes at the start: all its sends, and a signal to each neighbour. -/
def O₀ (c : Dev nD) : CellTallies nD τ sig ℕ := (O c 0 + tallyAt (barC (bw true c)) 0 1) + tallyAt (barC (bw false c)) 0 1

theorem O_start (c : Dev nD) : O c 0 = ∑ i : BT, tallyAt (recvC i.1 (kr i.2) (fw i.1 c)) i.2.val N := by
  unfold O; exact Finset.sum_congr rfl fun i _ => if_pos (Nat.zero_le _)

omit [FloatOps F] in
theorem creds (c : Dev nD) :
    (Pipeline.launchCred O₀ c : sProp 𝕄) ⊢ iprop(cred (tallyAt (barC c) 0 2) ∗ bigSep Finset.univ fun i : BT => credR c i) := by
  have e : (O₀ : Dev nD → CellTallies nD τ sig ℕ) = fun c => ((∑ i : BT, tallyAt (recvC i.1 (kr i.2) (fw i.1 c)) i.2.val N) + tallyAt (barC (bw true c)) 0 1) + tallyAt (barC (bw false c)) 0 1 :=
    funext fun c => by unfold O₀; rw [O_start]
  rw [e, Pipeline.launchCred_add, Pipeline.launchCred_add, Pipeline.launchCred_sum]
  iintro ⟨⟨HR, H1⟩, H2⟩
  ihave H1 := (Pipeline.launchCred_tallyAt (.reg barS) (bw true) (fw true) (bw_fw true) (fw_bw true) 0 1 c) $$ H1
  ihave H2 := (Pipeline.launchCred_tallyAt (.reg barS) (bw false) (fw false) (bw_fw false) (fw_bw false) 0 1 c) $$ H2
  isplitl [H1 H2]
  · rw [show (tallyAt (barC c) 0 2 : CellTallies nD τ sig ℕ) = tallyAt (barC c) 0 1 + tallyAt (barC c) 0 1 from (tallyAt_add (barC c) 0 1 1).symm]
    iapply (cred_add _ _).2
    isplitl [H1] <;> iassumption
  iapply (show (bigSep Finset.univ fun i : BT => Pipeline.launchCred (fun d => tallyAt (recvC i.1 (kr i.2) (fw i.1 d)) i.2.val N) c) ⊢ bigSep Finset.univ fun i : BT => (credR c i : sProp 𝕄) from
    bigSep_mono fun i _ => Pipeline.launchCred_tallyAt (.dma (sR i.1 (kr i.2))) (fw i.1) (bw i.1) (fw_bw i.1) (bw_fw i.1) i.2.val N c)
  iexact HR

end Cert.RingProof

end
-- ==== Proof.Launch.lean ====
/-
# The launch

The kernel on every device at once: what each device starts from, its run, and what the memory holds at the end.
-/
module

public import proofs.«01_k».proof.Proof.Deal
public import proofs.«01_k».proof.Proof.Gen.KernelIdeal.Points
public import Idealize.ShloMosaic.Lib.Pipeline.CollectiveSegs

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: arbitrary contents, every semaphore at zero. -/
def s₀ : MemSt nD τ sig (Elt F) := ⟨m, fun _ => 0, ρ⟩

/-- The operands, as the kernel finds them. -/
def ins : Ins F where
  x c := (win0_0.blk (0 : Fin 1)).view.read (Elt F) (m ((c : Thread nD τ).loc main_arg0))
  w c := (win0_1.blk (0 : Fin 1)).view.read (Elt F) (m ((c : Thread nD τ).loc main_arg1))
  a c := (win0_2.blk (0 : Fin 1)).view.read (Elt F) (m ((c : Thread nD τ).loc main_arg2))
  b c := (win0_3.blk (0 : Fin 1)).view.read (Elt F) (m ((c : Thread nD τ).loc main_arg3))

/-! ## The end: the semaphores come back -/

section Close
variable (I : Ins F)

theorem close_one (g : GSem nD τ sig) (R : ℕ) (hI : Env I ⊢ iprop(∃ κ, cellInv ER (Rd I) κ g)) (hR : ∀ r, R ≤ r → (Rd I).duties g r = ∅) :
    iprop(Env I ∗ at_ g R) ⊢ |={Set.univ}=> (semVal g 0 : sProp 𝕄) := by
  unfold at_
  iintro ⟨#HE, Ha, -⟩
  ihave H := hI $$ HE
  icases H with ⟨%κ, #HI⟩
  iapply (Rounds.cell_close ER (Rd I) (Set.mem_univ κ) (fun h => h) (R := R) hR)
  isplitr; · iexact HI
  iexact Ha

/-- The rounds the semaphores are at in the end. -/
def endR : Kc → ℕ
  | .inl (.inl x) => cntS x 72
  | .inl (.inr (.inl x)) => cntR x 72
  | .inl (.inr (.inr _)) => 4
  | .inr _ => 1

theorem endS (x : Bool × Fin 5) : cntS x 72 = nS x.2 := by revert x; decide
theorem endRv (x : Bool × Fin 5) : cntR x 72 = nR x.2 := by revert x; decide

theorem close_cell (c : Dev nD) (k : Kc) : iprop(Env I ∗ at_ (kcell (c, k)) (endR k)) ⊢ |={Set.univ}=> (semVal (kcell (c, k)) 0 : sProp 𝕄) := by
  rcases k with (x | x | j) | u
  · exact close_one I (sendC x.1 x.2 c) (cntS x 72) (env_send I x.1 x.2 c) (by rw [endS]; exact duties_later_send I x.1 c x.2)
  · exact close_one I (recvC x.1 x.2 c) (cntR x 72) (env_recv I x.1 x.2 c) (by rw [endRv]; exact duties_later_recv I x.1 c x.2)
  · exact close_one I (outC j c) 4 (env_out I j c) (duties_later_out I c j)
  · exact close_one I (barC c) 1 (env_bar I c) (duties_later_bar I c)

/-- All rounds over, every semaphore of the device is at zero and its own again. -/
theorem close_all (c : Dev nD) :
    iprop(Env I ∗ bigSep Finset.univ fun k : Kc => at_ (kcell (c, k)) (endR k)) ⊢ |={Set.univ}=> iprop(ownSems (F := F) c ∗ unscopedSems0 c) := by
  rw [sems0_eq]
  have h : (bigSep Finset.univ fun k : Kc => iprop(Env I ∗ at_ (kcell (c, k)) (endR k))) ⊢ bigSep Finset.univ fun k : Kc => iprop(|={Set.univ}=> (semVal (kcell (c, k)) 0 : sProp 𝕄)) :=
    bigSep_mono fun k _ => close_cell I c k
  exact (bigSep_with.trans h).trans (bigSep_fupd _ _)

end Close

/-! ## The pipeline's data -/

/-- The output of device `c`, finished: its eight blocks of columns. -/
def Done (I : Ins F) (c : Dev nD) : sProp 𝕄 :=
  iprop(∃ f : Buf (Elt F) ((c : Thread nD τ).loc main_v1), ⌜∀ n : Fin 8, (yS n).view.read (Elt F) f = outw I c n⌝ ∗ ((c : Thread nD τ).loc main_v1) ↦{fullShare} f)

def start (c : Dev nD) : sProp 𝕄 :=
  iprop(G' (ins m) c ∗ levAts L lv ∗ (cred (tallyAt (barC c) 0 2) ∗ bigSep Finset.univ fun i : BT => credR c i) ∗ anyB c main_v1)

def Φ₀ (c : Dev nD) : sProp 𝕄 := iprop(start m c ∗ anyB c cc0_scratch0 ∗ anyB c cc0_scratch1 ∗ anyB c cc0_scratch2)
def Φ₁ (c : Dev nD) : sProp 𝕄 :=
  iprop((ownSems (F := F) c ∗ unscopedSems0 c) ∗ Done (ins m) c ∗ anyB c cc0_scratch0 ∗ anyB c cc0_scratch1 ∗ anyB c cc0_scratch2)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (ins m).x c
    | ⟨1, _⟩ => (ins m).w c
    | ⟨2, _⟩ => (ins m).a c
    | ⟨3, _⟩ => (ins m).b c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- What a device is dealt is what its run starts from. -/
theorem start_split (I : Ins F) (c : Dev nD) (W) :
    iprop((G' I c ∗ levAts L lv ∗ (cred (tallyAt (barC c) 0 2) ∗ bigSep Finset.univ fun i : BT => credR c i) ∗ anyB c main_v1) ∗ owes (c : Thread nD τ) (O₀ c) W)
      ⊢ iprop(Env I ∗ Init c ∗ (at_ (outC 0 c) 0 ∗ at_ (outC 1 c) 0) ∗ outs c 0) := by
  have hS : (bigSep Finset.univ fun x : Bool × Fin 5 => at_ (F := F) (kcell (c, .inl (.inl x))) 0) = arrS c 0 := by
    unfold arrS; exact bigSep_congr fun x _ => by rw [show cntS x 0 = 0 from by revert x; decide]; rfl
  have hR : (bigSep Finset.univ fun x : Bool × Fin 5 => at_ (F := F) (kcell (c, .inl (.inr (.inl x)))) 0) = arrR c 0 := by
    unfold arrR; exact bigSep_congr fun x _ => by rw [show cntR x 0 = 0 from by revert x; decide]; rfl
  have hfam {A : Type} [Fintype A] [DecidableEq A] (pos : A → ℕ) (X : A → sProp 𝕄) : bigSep Finset.univ X = fam pos 0 X := by
    unfold fam; exact bigSep_congr fun i _ => (if_pos (Nat.zero_le _)).symm
  have hbar (Φ : Bool → sProp 𝕄) : bigSep Finset.univ Φ = iprop(Φ false ∗ Φ true) :=
    bigSep_univ_eq_bigSepL [false, true] (by decide) (by decide) Φ
  have houts : iprop((bigSep Finset.univ fun n : Fin 8 => dutyTok ER (outC (jOf n) c) (n.val / 2) false) ∗ bigSep Finset.univ fun n : Fin 8 => iprop(∃ w, yblk (F := F) c n w)) = outs c 0 := by
    unfold outs; rw [← hfam, ← bigSep_sep']; rfl
  unfold G' payToks
  iintro ⟨⟨⟨⟨#HI, #HR⟩, Hat, HtS, HtR, HtO, HtB⟩, #Hlev, ⟨HcB, HcR⟩, Hy⟩, HO⟩
  ihave Hat := (Entails.of_eq (kc_split _)) $$ Hat
  icases Hat with ⟨⟨HaS, HaR, HaO⟩, HaB⟩
  ihave HaS := (Entails.of_eq hS) $$ HaS
  ihave HaR := (Entails.of_eq hR) $$ HaR
  ihave HaO := (Entails.of_eq (fin2 _)) $$ HaO
  ihave HtS := (Entails.of_eq (hfam spos _)) $$ HtS
  ihave HtR := (Entails.of_eq (hfam spos _)) $$ HtR
  ihave HcR := (Entails.of_eq (hfam wrp _)) $$ HcR
  ihave HtB := (Entails.of_eq (hbar _)) $$ HtB
  icases HtB with ⟨HtB0, HtB1⟩
  ihave Hy := (cut_y c) $$ Hy
  isplitr
  · iapply (env_intro I); isplitr; · iexact Hlev
    iexact HI
  isplitl [HO HtB0 HtB1 HcB HaB HtS HtR HcR HaS HaR]
  · unfold Init Books
    isplitl [HO]; · iexists W; unfold O₀; iexact HO
    isplitl [HtB0]; · iexact HtB0
    isplitl [HtB1]; · iexact HtB1
    isplitr; · iapply (reached_at (F := F) (bw false c, .inr ())); iexact HR
    isplitr; · iapply (reached_at (F := F) (bw true c, .inr ())); iexact HR
    isplitr; · iapply (reached_at (F := F) (c, .inl (.inr (.inl (false, 1))))); iexact HR
    isplitr; · iapply (reached_at (F := F) (c, .inl (.inr (.inl (true, 1))))); iexact HR
    isplitl [HcB]; · iexact HcB
    isplitl [HaB]; · iexact HaB
    isplitl [HtS]; · iexact HtS
    isplitl [HtR]; · iexact HtR
    isplitl [HcR]; · iexact HcR
    isplitl [HaS] <;> iassumption
  isplitl [HaO]; · iexact HaO
  iapply (Entails.of_eq houts)
  isplitl [HtO] <;> iassumption

variable [∀ e, Nonempty (Elt F e)]

/-- What a device's run ends with is what it gives back. -/
theorem finish (I : Ins F) (c : Dev nD) :
    iprop(Env I ∗ at_ (barC c) 1 ∗ Slots c ∗ Pro c 72 ∗ Stag c 4 ∗ Blocks I c)
      ⊢ |={Set.univ}=> iprop(((ownSems (F := F) c ∗ unscopedSems0 c) ∗ Done I c ∗ anyB c cc0_scratch0 ∗ anyB c cc0_scratch1 ∗ anyB c cc0_scratch2) ∗ ∃ W, owes (c : Thread nD τ) 0 W) := by
  unfold Pro Books Stag arrS arrR
  rw [O_end]
  iintro ⟨#HE, HaB, Hsl, ⟨Ho, -, -, -, HaS, HaR⟩, ⟨HO0, HO1, Ha0, Ha1⟩, HY⟩
  imod (close_all I c) $$ [HaB HaS HaR Ha0 Ha1] with Hsem
  · isplitr; · iexact HE
    iapply (Entails.of_eq (kc_split _).symm)
    isplitl [HaS HaR Ha0 Ha1]
    · isplitl [HaS]; · iexact HaS
      isplitl [HaR]; · iexact HaR
      iapply (Entails.of_eq (fin2 fun j : Fin 2 => at_ (F := F) (outC j c) 4).symm)
      isplitl [Ha0]; · iexact Ha0
      iexact Ha1
    iexact HaB
  ihave H := (join_comm c) $$ Hsl
  ihave H2 := (join_o c) $$ [HO0 HO1]
  · isplitl [HO0] <;> iassumption
  ihave HY := (show Blocks I c ⊢ bigSep Finset.univ fun n : Fin 8 => yblk c n (outw I c n) from
    Entails.of_eq (fin8 fun n : Fin 8 => yblk c n (outw I c n)).symm) $$ HY
  ihave HY := (join_y c (fun n : Fin 8 => outw I c n)) $$ HY
  icases H with ⟨H0, H1⟩
  imodintro
  isplitr [Ho]
  · isplitl [Hsem]; · iexact Hsem
    isplitl [HY]; · unfold Done; iexact HY
    isplitl [H0]; · iexact H0
    isplitl [H1] <;> iassumption
  iexact Ho

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt 0 t0_0.succ ∗ stg c cc0_stg0_0 ((ins m).x c) ∗ stg c cc0_stg1_0 ((ins m).w c)
    ∗ stg c cc0_stg2_0 ((ins m).a c) ∗ stg c cc0_stg3_0 ((ins m).b c))

/-- A window's staging buffer holds what was fetched into it. -/
theorem before0 (c : Dev nD) (d) : (dats m ρ 0 c).before (0 : Fin 4) t0_0 d = (ins m).x c := by unfold Dat.before; rw [if_pos (fetch0_0 t0_0)]; rfl
theorem before1 (c : Dev nD) (d) : (dats m ρ 0 c).before (1 : Fin 4) t0_0 d = (ins m).w c := by unfold Dat.before; rw [if_pos (fetch0_1 t0_0)]; rfl
theorem before2 (c : Dev nD) (d) : (dats m ρ 0 c).before (2 : Fin 4) t0_0 d = (ins m).a c := by unfold Dat.before; rw [if_pos (fetch0_2 t0_0)]; rfl
theorem before3 (c : Dev nD) (d) : (dats m ρ 0 c).before (3 : Fin 4) t0_0 d = (ins m).b c := by unfold Dat.before; rw [if_pos (fetch0_3 t0_0)]; rfl

/-- The body, from what the pipeline gives it to what the pipeline takes back. -/
theorem sound_body (c : Dev nD) :
    bodyPre m ρ c ⊢ wp frame (wpE (defs₀ (F := F)) 𝒱₀ (c : Thread nD τ) none) Set.univ (atArgs cc0_body) (fun _ => bodyPost m ρ c) := by
  refine BIBase.Entails.trans ?_ (wp_fupd _ _ _ _ _)
  unfold bodyPre Φ₀ start
  iintro ⟨⟨Hst, H0, H1, H2⟩, Ho, ⟨%d0, %g0, %h0, Hx⟩, ⟨%d1, %g1, %h1, Hw⟩, ⟨%d2, %g2, %h2, Ha⟩, ⟨%d3, %g3, %h3, Hb⟩⟩
  rw [before0] at h0; rw [before1] at h1; rw [before2] at h2; rw [before3] at h3
  subst h0; subst h1; subst h2; subst h3
  unfold Dat.owesAt Pipeline.owesWithin
  icases Ho with ⟨%W, %hW, HO⟩
  rw [show (dats m ρ 0 c).owed t0_0.castSucc = O₀ c from rfl]
  ihave H := (start_split (ins m) c W) $$ [Hst HO]
  · isplitl [Hst] <;> iassumption
  icases H with ⟨#HE, Hi, ⟨Ha0, Ha1⟩, Hu⟩
  ihave Hsl := (cut_comm c) $$ [H0 H1]
  · isplitl [H0] <;> iassumption
  ihave HO2 := (cut_o c) $$ H2
  icases HO2 with ⟨HO0, HO1⟩
  iapply (body_run (ins m) c _) $$ HE Hi Hsl [Ha Hb] [Hx Hw] [HO0 HO1 Ha0 Ha1] Hu
  · unfold Scl; isplitl [Ha] <;> iassumption
  · unfold Opn xPts wPts; isplitl [Hx] <;> iassumption
  · unfold Stag
    isplitl [HO0]; · iexact HO0
    isplitl [HO1]; · iexact HO1
    isplitl [Ha0] <;> iassumption
  iintro HaB Hs Hx Hsl HP HSt HY
  imod (finish (ins m) c) $$ [HaB Hsl HP HSt HY] with ⟨HΦ, ⟨%W', HO⟩⟩
  · isplitr; · iexact HE
    isplitl [HaB]; · iexact HaB
    isplitl [Hsl]; · iexact Hsl
    isplitl [HP]; · iexact HP
    isplitl [HSt] <;> iassumption
  imodintro
  unfold bodyPost Φ₁ Dat.owesAt Pipeline.owesWithin Scl Opn xPts wPts
  rw [show (dats m ρ 0 c).owed t0_0.succ = 0 from rfl]
  icases Hs with ⟨Ha, Hb⟩
  icases Hx with ⟨Hx, Hw⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Ha]
  · iexists _; isplitr; · (ipureintro; rfl)
    iexact Ha
  iexists _; isplitr; · (ipureintro; rfl)
  iexact Hb

theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ wp frame (wpE (defs₀ (F := F)) 𝒱₀ c none) Set.univ (atArgs cc0_body) (fun _ => bodyPost m ρ c)
  exact sound_body m ρ c

/-! ## The launch's side conditions -/

omit [∀ e, Nonempty (Elt F e)]

theorem share_eq (c : Dev nD) (w : Fin cfg0.W) : (dats m ρ 0 c).share w = fullShare := by unfold Dat.share; split <;> rfl

theorem O₀_pos {c : Dev nD} {g : GSem nD τ sig} {u : ℕ} (h : 0 < O₀ c g u) :
    (∃ i : BT, g = recvC i.1 (kr i.2) (fw i.1 c) ∧ u = i.2.val) ∨ (∃ b : Bool, g = barC (bw b c) ∧ u = 0) := by
  unfold O₀ at h
  rcases Pipeline.add_pos_cases h with h | h
  · rcases Pipeline.add_pos_cases h with h | h
    · obtain ⟨i, -, h1, h2⟩ := O_pos h
      exact Or.inl ⟨i, h1, h2⟩
    · exact Or.inr ⟨true, Pipeline.tallyAt_pos h⟩
  · exact Or.inr ⟨false, Pipeline.tallyAt_pos h⟩

omit [FloatOps F] in
/-- The staging semaphores' waits come before everything owed. -/
theorem mayWait_stage (c : Dev nD) (q : DmaSem sig) (hq : useOf (.dma q) = .other) (O : CellTallies nD τ sig ℕ) (hO : O = O₀ c ∨ O = 0) :
    (levAts L lv : sProp 𝕄) ⊢ MayWait (c : Thread nD τ) (.dma q) 0 O := by
  rcases hO with rfl | rfl
  · refine MayOwe.of_cut (L := L) (lev := lv) 0 (fun p hp => by rw [Finset.mem_singleton.mp hp, L_tc]; exact Finset.mem_range.mpr (Nat.succ_pos 11))
      (fun g u hg => by
        rcases O₀_pos hg with ⟨i, rfl, rfl⟩ | ⟨b, rfl, rfl⟩ <;> rw [L_tc]
        · exact Finset.mem_range.mpr i.2.isLt
        · exact Finset.mem_range.mpr (by decide))
      (fun p hp => by rw [Finset.mem_singleton.mp hp]; show lvU (useOf (.dma q)) 0 ≤ 0; rw [hq]; exact le_refl 0)
      (fun g u hg => by
        rcases O₀_pos hg with ⟨i, rfl, rfl⟩ | ⟨b, rfl, rfl⟩
        · show 0 < lvU (useOf (.dma (sR i.1 (kr i.2)))) _
          rw [use_recv]; exact Nat.succ_pos _
        · show 0 < lvU (useOf (.reg barS)) _
          rw [use_bar]; exact Nat.succ_pos _)
  · rw [MayWait_zero]; iintro -; iempintro

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(start m c ∗ emp) := by
  rw [Pipeline.unscopedRestP_none, unscopedRest0_eq]
  iintro ⟨Hy, Hlev, Hcr, -, HG⟩
  ihave Hc := (creds (F := F) c) $$ Hcr
  imodintro
  unfold start
  isplitl
  · isplitl [HG]; · iexact HG
    isplitl [Hlev]; · iexact Hlev
    isplitl [Hc]; · iexact Hc
    unfold anyB; iexists _; iexact Hy
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ anyB
  iintro ⟨Hs, -, H⟩
  isplitl [Hs] <;> iassumption

theorem phi1_exit (c : Dev nD) :
    (dats m ρ 0 c).Φ (Fin.last cfg0.N) ⊢ iprop((unscopedSems0 c ∗ Done (ins m) c) ∗ Pipeline.ownSems0 osem c ∗ Pipeline.scopedRest cfg0.spec c) := by
  rw [show (dats m ρ 0 c).Φ (Fin.last cfg0.N) = Φ₁ m c from rfl, scopedRest0_eq]
  unfold Φ₁ anyB
  iintro ⟨⟨Hos, Hus⟩, HD, H⟩
  isplitl [Hus HD]
  · isplitl [Hus] <;> iassumption
  isplitl [Hos] <;> iassumption

/-- What the end says of device `c`'s output and unscoped semaphores. -/
def QY (c : Dev nD) (s : MemSt nD τ sig (Elt F)) : Prop :=
  (∀ n : Fin 8, (yS n).view.read (Elt F) (s.mem ((c : Thread nD τ).loc main_v1)) = outw (ins m) c n)
    ∧ ∀ sm : SemLoc sig, sm.isScoped .tc = false → s.sem ((c.tc : Thread nD τ), sm) = 0

theorem read_end (c : Dev nD) (s' : Phys nD τ sig (Elt F)) :
    iprop((unscopedSems0 c ∗ Done (ins m) c) ∗ emp ∗ SI s') ⊢ |={Set.univ}=> iprop(⌜QY m c s'.mem⌝ ∗ (SI s' : sProp 𝕄)) := by
  unfold Done
  iintro ⟨⟨Hu, ⟨%f, %hf, Hy⟩⟩, -, HSI⟩
  ihave %hm := (SI_pointsTo_agree (st := s')) $$ [HSI Hy]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    refine ⟨fun n => ?_, hs⟩
    rw [show s'.mem.mem ((c : Thread nD τ).loc main_v1) = f from funext fun i => hm i (Finset.mem_univ i)]
    exact hf n
  iexact HSI

/-! ## The run -/

variable [∀ e, Nonempty (Elt F e)]

def QC : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ ∀ n : Fin 8, (yS n).view.read (Elt F) (r.2.mem ((c : Thread nD τ).loc main_v1)) = outw (ins m) c n

/-- From any memory whose semaphores are at zero, every run ends with the operands as they were, each block of columns
    of each device's output at its value, and all semaphores at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      imod (fund_ring (ins m)) $$ HX with HG
      imodintro
      isplitl [HP] <;> iassumption)
    (hglob := glob (ins m))
    (hA := fun _ _ => rfl) (hpf := fun _ k => k.elim0)
    (X := start m) (Y := fun c => iprop(unscopedSems0 c ∗ Done (ins m) c)) (Z := fun _ => iprop(emp))
    (hX := start_intro m ρ) (hin := phi0_intro m ρ) (hout := phi1_exit m ρ)
    (QY := QY m) (hY := read_end m)
    (hQ := fun _ h hs => ⟨fun c => ⟨fun w => (h c).1 w, (h c).2.2.1⟩, sem_eq_zero hs fun c => (h c).2.2.2⟩)

end Cert.RingProof

end
-- ==== Proof.Frames.lean ====
/-
# What the run leaves unchanged
-/
module

public import proofs.«01_k».proof.Proof.Launch
public import proofs.«01_k».proof.Proof.Gen.Kernel
public import proofs.«01_k».proof.Defs

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- Every element type has a value, of words -/
instance bits_nonempty (e : EltTy) : Nonempty (Elt Bits e) := by cases e <;> infer_instance
/-- and of the extended reals. -/
instance ideal_nonempty (e : EltTy) : Nonempty (Elt Ideal e) := by cases e <;> infer_instance

variable [∀ e, Nonempty (Elt F e)] (m : (ℓ : Loc nD τ sig) → Buf (Elt F) ℓ) (ρ : Dev nD → PrngReg)

/-- Device `c`'s operands in memory `s` are those of memory `m`. -/
def Kept (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

/-- The run keeps every operand. -/
theorem kept {r : PUnit × MemSt nD τ sig (Elt F)} (h : QC m ρ r) (c : Dev nD) : Kept m r.2 c :=
  ⟨((h c).1 0).trans ((dats m ρ 0 c).arrAt_in (0 : Fin 4) rfl _), ((h c).1 1).trans ((dats m ρ 0 c).arrAt_in (1 : Fin 4) rfl _),
    ((h c).1 2).trans ((dats m ρ 0 c).arrAt_in (2 : Fin 4) rfl _), ((h c).1 3).trans ((dats m ρ 0 c).arrAt_in (3 : Fin 4) rfl _)⟩

/-- The kernel over the extended reals runs, keeps its operands and leaves every semaphore at zero. -/
theorem frame_ideal : Cert.quiescent_KernelIdeal := fun m ρ _ =>
  (θ_run Cert.KernelIdeal.defs _ _).mono (fun _ h => ⟨fun c => kept m ρ h.1 c, h.2⟩) (run_main (F := Ideal) m ρ)

/-- The two printed programs are one text: the same bodies, -/
theorem same_bodies : Cert.Kernel.defs₀ (F := F) = Cert.KernelIdeal.defs₀ (F := F) := by
  unfold Cert.Kernel.defs₀ Cert.KernelIdeal.defs₀
  refine congrArg (Defs.onTc (nD := nD) (τ := τ) (sig := sig) (Val := Elt F) (Λ := Λ₀)) (funext fun ℓ => funext fun a => ?_)
  match ℓ, a with
  | ⟨0, _⟩, (t, s) => rfl
/-- and so the same table. -/
theorem same_defs : Cert.Kernel.defs (F := F) = Cert.KernelIdeal.defs (F := F) :=
  congrArg (Pipeline.defs (pcfgs (F := F))) same_bodies

/-- The kernel over words runs, keeps its operands and leaves every semaphore at zero too. -/
theorem frame_kernel : Cert.quiescent_Kernel := fun m ρ _ => by
  rw [same_defs]
  exact (θ_run Cert.KernelIdeal.defs _ _).mono (fun _ h => ⟨fun c => kept (F := Bits) m ρ h.1 c, h.2⟩) (run_main (F := Bits) m ρ)

end Cert.RingProof

end
-- ==== Proof.Value.lean ====
/-
# What one device's output block holds, over the extended reals

The partial sums travelling round the ring, read at one element: after three hops and the device's own product, every
device has contributed once.
-/
module

public import proofs.«01_k».proof.Proof.Ring
public import Idealize.ShloMosaic.Lib.Pointwise

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Row `i` of the one array times column `j` of the other. -/
def dot (X W : Vec Ideal S1024x1024 .i8) (i j : Fin 1024) : EReal :=
  ∑ k : Fin 1024, (((X (ix2 i k)).toInt : ℝ) : EReal) * (((W (ix2 k j)).toInt : ℝ) : EReal)

/-- The first partial sum at an element. -/
theorem pay2_at (X W : Vec Ideal S1024x1024 .i8) (i j : Fin 1024) :
    k0_pay2 (F := Ideal) X W (ix3 0 i j) = dot X W i j := by
  unfold dot
  pointwise [k0_pay2]
  rfl

/-- A device's own product at an element. -/
theorem pay4_at (X W : Vec Ideal S1024x1024 .i8) (i j : Fin 1024) :
    k0_pay4 (F := Ideal) X W (ix2 i j) = dot X W i j := by
  unfold dot
  pointwise [k0_pay4]
  rfl

/-- What is sent on, at an element: what came in and the device's own product. -/
theorem pay8_at (A : FVec Ideal S1024x1024 .f32) (B : Vec Ideal S1x1024x1024 .bf16) (i j : Fin 1024) :
    k0_pay8 (F := Ideal) A B (ix3 0 i j) = (B (ix3 0 i j) : EReal) + (A (ix2 i j) : EReal) := by
  pointwise [k0_pay8]

/-- The finished block at an element. -/
theorem pay17_at (s : Ideal .f32) (X W : Vec Ideal S1024x1024 .i8) (B : Vec Ideal S1x1024x1024 .bf16) (i j : Fin 1024) :
    k0_pay17 (F := Ideal) s X W B (ix3 0 i j) = ((B (ix3 0 i j) : EReal) + dot X W i j) * (s : EReal) := by
  unfold dot
  pointwise [k0_pay17]
  rfl

/-! ## Once round the ring -/

variable (I : Ins Ideal)

/-- Device `d`'s share of an element of row block `c` and column block `n`. -/
def share (c : Dev nD) (n : Fin 8) (i j : Fin 1024) (d : Dev nD) : EReal :=
  dot (xch (I.x d) c) (wch (I.w d) n) i j

/-- The devices behind `c`, one to three hops, are working on `c`'s own row block when their sums are on the way to it. -/
theorem chunk_home (b : Bool) (c : Dev nD) : chunk b 0 (bw b (bw b (bw b c))) = c ∧ chunk b 1 (bw b (bw b c)) = c
    ∧ chunk b 2 (bw b c) = c := by revert b c; decide

/-- Three hops back, two, one and none are all the devices there are. -/
theorem round (b : Bool) (c : Dev nD) :
    (Finset.univ : Finset (Dev nD)) = {bw b (bw b (bw b c)), bw b (bw b c), bw b c, c} := by revert b c; decide
theorem round_ne (b : Bool) (c : Dev nD) : bw b (bw b (bw b c)) ∉ ({bw b (bw b c), bw b c, c} : Finset (Dev nD))
    ∧ bw b (bw b c) ∉ ({bw b c, c} : Finset (Dev nD)) ∧ bw b c ∉ ({c} : Finset (Dev nD)) := by revert b c; decide

/-- A sum over the devices, in the order a partial sum visits them. -/
theorem sum_round (b : Bool) (c : Dev nD) (f : Dev nD → EReal) :
    ∑ d, f d = f (bw b (bw b (bw b c))) + f (bw b (bw b c)) + f (bw b c) + f c := by
  obtain ⟨h3, h2, h1⟩ := round_ne b c
  rw [round b c, Finset.sum_insert h3, Finset.sum_insert h2, Finset.sum_insert h1, Finset.sum_singleton, add_assoc, add_assoc]

/-- The partial sum that arrives at device `c` last: the shares of the three other devices. -/
theorem arrived (b : Bool) (p : Fin 4) (c : Dev nD) (i j : Fin 1024) :
    SP I b p 2 (bw b c) (ix3 0 i j) = share I c (col b p) i j (bw b (bw b (bw b c)))
      + share I c (col b p) i j (bw b (bw b c)) + share I c (col b p) i j (bw b c) := by
  obtain ⟨h0, h1, h2⟩ := chunk_home b c
  simp only [SP, part]
  rw [pay8_at, pay8_at, pay2_at, pay4_at, pay4_at, h0, h1, h2]
  rfl

/-- The finished block at an element: every device's share, times the scales. -/
theorem fin_at (b : Bool) (p : Fin 4) (c : Dev nD) (i j : Fin 1024) :
    fin I b p c (ix3 0 i j) = (∑ d, share I c (col b p) i j d) * (scale I c : EReal) := by
  rw [fin, pay17_at, arrived, sum_round b c]
  rfl

theorem col_nb (n : Fin 8) : col (nbB n) (nbP n) = n := by revert n; decide

/-- The same of the block that is copied out. -/
theorem outw_at (c : Dev nD) (n : Fin 8) (i j : Fin 1024) :
    outw I c n (ix2 i j) = (∑ d, share I c n i j d) * (scale I c : EReal) := by
  have h : outw I c n (ix2 i j) = outv I c n (ix3 0 i j) := by
    unfold outw
    pointwise
  rw [h, outv, fin_at, col_nb]

end Cert.RingProof

end
-- ==== Proof.Whole.lean ====
/-
# The ring's result is the whole product

The reference multiplies two whole matrices. Cut into the devices' blocks, its sum over 4096 terms is the sum over the
four devices of 1024 terms each, which is what every device ends holding.
-/
module

public import proofs.«01_k».proof.Proof.Frames
public import proofs.«01_k».proof.Proof.Value
public import proofs.«01_k».proof.Proof.Gen.ReferenceIdeal.Run
public import Idealize.ShloMosaic.Lib.Pipeline.ValueKit.Acc
public import Idealize.ShloMosaic.Lib.Pipeline.Value
public import proofs.«01_k».proof.Defs

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The reference's result from its arguments. -/
abbrev refOut (X : Vec Ideal ⟨2, ![4096, 4096]⟩ .i8) (W : Vec Ideal ⟨2, ![4096, 8192]⟩ .i8) (a b : FVec Ideal S1 .f32) :
    FVec Ideal ⟨2, ![4096, 8192]⟩ .f32 :=
  mulf (Host.dotGeneral Cert.ReferenceIdeal.dot_S4096x4096_S4096x8192_S4096x8192_1_0_0_1_n_n none
      (sitofp .f32 (extsi 32 X Cert.ReferenceIdeal.Gen.natLt_8_32)) (sitofp .f32 (extsi 32 W Cert.ReferenceIdeal.Gen.natLt_8_32)))
    (broadcastInDim Cert.ReferenceIdeal.S4096x8192 ![0, 1] Cert.ReferenceIdeal.Gen.bcast_S1x1_S4096x8192_0_1
      (broadcastInDim Cert.ReferenceIdeal.S1x1 ![1] Cert.ReferenceIdeal.Gen.bcast_S1_S1x1_1 (mulf a b)))

/-- Equal factors have equal products. -/
theorem times {x y : EReal} (s : EReal) (h : x = y) : x * s = y * s := h ▸ rfl

/-- Widening a signed word keeps the number it stands for. -/
theorem wide (v : BitVec 8) : (v.signExtend 32).toInt = v.toInt := BitVec.toInt_signExtend_of_le (by decide)

/-- The reference's conversion of an operand's entry is the number it stands for. -/
theorem entry (v : BitVec 8) : (FloatOps.sitofp (F := Ideal) FTy.f32 (v.signExtend 32) : EReal) = ((v.toInt : ℝ) : EReal) := by
  show (((v.signExtend 32).toInt : ℝ) : EReal) = _
  rw [wide]

/-- The reference's result at an element. -/
theorem refOut_at (X : Vec Ideal ⟨2, ![4096, 4096]⟩ .i8) (W : Vec Ideal ⟨2, ![4096, 8192]⟩ .i8) (a b : FVec Ideal S1 .f32)
    (r : Fin 4096) (q : Fin 8192) :
    refOut X W a b (ix2 r q) = (∑ k : Fin 4096, (((X (ix2 r k)).toInt : ℝ) : EReal) * (((W (ix2 k q)).toInt : ℝ) : EReal))
      * ((a (ix1 0) : EReal) * (b (ix1 0) : EReal)) := by
  unfold refOut
  pointwise
  exact times _ (Finset.sum_congr rfl fun k _ => by rw [entry, entry])

/-! ## The operands as blocks of the whole ones -/

variable (m : (ℓ : Loc nD τ sig) → Buf (Elt Ideal) ℓ) (ρ : Dev nD → PrngReg)
  (X : Vec Ideal ⟨2, ![4096, 4096]⟩ .i8) (W : Vec Ideal ⟨2, ![4096, 8192]⟩ .i8) (a b : FVec Ideal S1 .f32)

/-- Every device's operands are its blocks of the whole ones, and the scales. -/
def Agree : Prop := ∀ c : Dev nD,
  m ((c : Thread nD τ).loc main_arg0) = Layout.block ⟨2, ![4096, 1024]⟩ ⟨2, ![4096, 4096]⟩ 1 4 c X
    ∧ m ((c : Thread nD τ).loc main_arg1) = Layout.block ⟨2, ![1024, 8192]⟩ ⟨2, ![4096, 8192]⟩ 0 4 c W
    ∧ m ((c : Thread nD τ).loc main_arg2) = a ∧ m ((c : Thread nD τ).loc main_arg3) = b

/-- The kernel's windows are whole arrays. -/
theorem ins_x (c : Dev nD) : (ins m).x c = m ((c : Thread nD τ).loc main_arg0) :=
  funext fun i => congrArg (m ((c : Thread nD τ).loc main_arg0)) (funext fun q => Fin.ext
    (Idealize.ShloMosaic.Pipeline.Window.rect_emb_val_of_index_zero win0_0 (0 : Fin 1) q rfl i))
theorem ins_w (c : Dev nD) : (ins m).w c = m ((c : Thread nD τ).loc main_arg1) :=
  funext fun i => congrArg (m ((c : Thread nD τ).loc main_arg1)) (funext fun q => Fin.ext
    (Idealize.ShloMosaic.Pipeline.Window.rect_emb_val_of_index_zero win0_1 (0 : Fin 1) q rfl i))
theorem ins_a (c : Dev nD) : (ins m).a c = m ((c : Thread nD τ).loc main_arg2) :=
  funext fun i => congrArg (m ((c : Thread nD τ).loc main_arg2)) (funext fun q => Fin.ext
    (Idealize.ShloMosaic.Pipeline.Window.rect_emb_val_of_index_zero win0_2 (0 : Fin 1) q rfl i))
theorem ins_b (c : Dev nD) : (ins m).b c = m ((c : Thread nD τ).loc main_arg3) :=
  funext fun i => congrArg (m ((c : Thread nD τ).loc main_arg3)) (funext fun q => Fin.ext
    (Idealize.ShloMosaic.Pipeline.Window.rect_emb_val_of_index_zero win0_3 (0 : Fin 1) q rfl i))

/-- Row `i` of row block `c`, and column `j` of column block `n`. -/
def row (c : Dev nD) (i : Fin 1024) : Fin 4096 := ⟨1024 * c.val + i.val, by have := c.isLt; change c.val < 4 at this; omega⟩
def clm (n : Fin 8) (j : Fin 1024) : Fin 8192 := ⟨1024 * n.val + j.val, by omega⟩

variable {m X W a b}

/-- An entry of the row block a device multiplies is an entry of the whole left operand. -/
theorem x_at (h : Agree m X W a b) (c d : Dev nD) (i k : Fin 1024) (hl : d.val * 1024 + k.val < 4096) :
    xch ((ins m).x d) c (ix2 i k) = X (ix2 (row c i) ⟨d.val * 1024 + k.val, hl⟩) := by
  unfold xch
  rw [ins_x, (h d).1]
  refine congrArg X (funext fun q => Fin.ext ?_)
  match q with
  | 0 => show 1024 * c.val + 1 * i.val = 1024 * c.val + i.val; omega
  | 1 => show d.val * 1024 + (0 + 1 * k.val) = d.val * 1024 + k.val; omega

/-- An entry of the column block a device multiplies is an entry of the whole right operand. -/
theorem w_at (h : Agree m X W a b) (d : Dev nD) (n : Fin 8) (k j : Fin 1024) (hl : d.val * 1024 + k.val < 4096) :
    wch ((ins m).w d) n (ix2 k j) = W (ix2 ⟨d.val * 1024 + k.val, hl⟩ (clm n j)) := by
  unfold wch
  rw [ins_w, (h d).2.1]
  refine congrArg W (funext fun q => Fin.ext ?_)
  match q with
  | 0 => show d.val * 1024 + (0 + 1 * k.val) = d.val * 1024 + k.val; omega
  | 1 => show 1024 * n.val + 1 * j.val = 1024 * n.val + j.val; omega

/-- The scale a device uses is the product of the two. -/
theorem scale_eq (h : Agree m X W a b) (c : Dev nD) :
    (scale (ins m) c : EReal) = (a (ix1 0) : EReal) * (b (ix1 0) : EReal) := by
  have hi : Shape.Idx.first (numel1_S1.symm ▸ Nat.one_pos) = (ix1 0 : S1.Idx) :=
    funext fun q => Fin.ext (by fin_cases q; exact Nat.lt_one_iff.mp (Fin.isLt _))
  unfold scale
  rw [ins_a, ins_b, (h c).2.2.1, (h c).2.2.2, hi]
  rfl

/-- What device `c` copies out is its part of the reference's result. -/
theorem outw_whole (h : Agree m X W a b) (c : Dev nD) (n : Fin 8) (i j : Fin 1024) :
    outw (ins m) c n (ix2 i j) = refOut X W a b (ix2 (row c i) (clm n j)) := by
  rw [outw_at, refOut_at, scale_eq h]
  refine times _ ?_
  unfold share dot
  refine Fin.sum_mul_add_congr (S := 4) (n := 1024) fun d k hl => ?_
  rw [x_at h c d i k hl, w_at h d n k j hl]

/-- Eight column blocks that hold their parts make the whole array. -/
theorem from_blocks (h : Agree m X W a b) (c : Dev nD) (f : Vec Ideal S1024x8192 .f32)
    (hf : ∀ n : Fin 8, (yS n).view.read (Elt Ideal) f = outw (ins m) c n) :
    f = Layout.block ⟨2, ![1024, 8192]⟩ ⟨2, ![4096, 8192]⟩ 0 4 c (refOut X W a b) := by
  funext q
  obtain ⟨i, l, rfl⟩ : ∃ (i : Fin 1024) (l : Fin 8192), q = ix2 i l := ⟨q 0, q 1, eq_ix2 q⟩
  have hn : l.val / 1024 < 8 := by omega
  have hj : l.val % 1024 < 1024 := Nat.mod_lt _ (by decide)
  have e := congrFun (hf ⟨l.val / 1024, hn⟩) (ix2 i ⟨l.val % 1024, hj⟩)
  rw [outw_whole h] at e
  refine Eq.trans ?_ (e.trans ?_)
  · refine congrArg f (funext fun q => Fin.ext ?_)
    match q with
    | 0 => show i.val = (0 + 1 * i.val); omega
    | 1 => show l.val = (1024 * (l.val / 1024) + 1 * (l.val % 1024)); omega
  · refine congrArg (refOut X W a b) (funext fun q => Fin.ext ?_)
    match q with
    | 0 => show 1024 * c.val + i.val = c.val * 1024 + i.val; omega
    | 1 => show 1024 * (l.val / 1024) + l.val % 1024 = l.val; omega

/-- The run ends with every device holding its block of rows of the reference's result. -/
theorem result (h : Agree m X W a b) {r : PUnit × MemSt nD τ sig (Elt Ideal)} (hr : QC m ρ r) (c : Dev nD) :
    r.2.mem ((c : Thread nD τ).loc main_v1)
      = Layout.block ⟨2, ![1024, 8192]⟩ ⟨2, ![4096, 8192]⟩ 0 4 c (refOut X W a b) :=
  from_blocks h c _ (hr c).2

/-! ## The claims about the reference -/

/-- The reference runs, keeps its operands, and has no semaphore to leave raised. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result, over the extended reals, is the reference's. -/
theorem same_result : Cert.algebraic_KernelIdeal_ReferenceIdeal := by
  intro m g m' g' _ h
  refine ⟨_, ?_, (θ_run Cert.ReferenceIdeal.defs _ _).mono (fun r h => h 0) (Cert.ReferenceIdeal.Value.run (F := Ideal) m' g')⟩
  exact (θ_run Cert.KernelIdeal.defs _ _).mono (fun r hr c => ⟨result g h hr.1 c, kept m g hr.1 c⟩) (run_main (F := Ideal) m g)

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Whole
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.RingProof.frame_kernel, Cert.RingProof.frame_ideal, Cert.RingProof.frame_reference, trivial, Cert.RingProof.same_result⟩

end Cert.Proof

end
